-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_forty" .f32 0x3CCCCCCD#32 ((1 / 40 : ℝ) : EReal)
  ∧ IdealRules.named_const.Statement Cert.KernelIdeal.κ "inv_seven" .f32 0x3E124925#32 ((1 / 7 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x256x4096 : Shape := ⟨3, ![24, 256, 4096]⟩
abbrev S1024x4096 : Shape := ⟨2, ![1024, 4096]⟩
abbrev S4096 : Shape := ⟨1, ![4096]⟩
abbrev S_ : Shape := ⟨0, ![]⟩

class Facts : Prop where
  bcast_S_S24x256x4096 : S_.BroadcastsInDim S24x256x4096 (![] : Fin 0 → Fin S24x256x4096.rank)
  bcast_S_S1024x4096 : S_.BroadcastsInDim S1024x4096 (![] : Fin 0 → Fin S1024x4096.rank)
  bcast_S_S4096 : S_.BroadcastsInDim S4096 (![] : Fin 0 → Fin S4096.rank)

variable [Facts]

def fn {F : FTy → Type} [FloatOps F] (main_arg0 : FVec F S24x256x4096 .bf16) (main_arg1 : FVec F S1024x4096 .bf16) (main_arg2 : FVec F S4096 .f32) : IVec S24x256x4096 1 × IVec S1024x4096 1 × IVec S4096 1 :=
  let main_v0 : FVec F S24x256x4096 .bf16 := Host.absf main_arg0
  let main_cst : FVec F S_ .bf16 := constant S_ .bf16 0x7F80#16
  let main_v1 : FVec F S24x256x4096 .bf16 := broadcastInDim S24x256x4096 ![] bcast_S_S24x256x4096 main_cst
  let main_v2 : IVec S24x256x4096 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  (main_v2, main_v5, main_v8)
-- ==== Kernel.lean ====
abbrev S24x256x4096 : Shape := ⟨3, ![24, 256, 4096]⟩
abbrev S1024x4096 : Shape := ⟨2, ![1024, 4096]⟩
abbrev S4096 : Shape := ⟨1, ![4096]⟩
abbrev S6144x4096 : Shape := ⟨2, ![6144, 4096]⟩
abbrev S1x4096 : Shape := ⟨2, ![1, 4096]⟩
abbrev S32x128x128 : Shape := ⟨3, ![32, 128, 128]⟩
abbrev S6144x256 : Shape := ⟨2, ![6144, 256]⟩
abbrev S1x256 : Shape := ⟨2, ![1, 256]⟩
abbrev S2x128x128 : Shape := ⟨3, ![2, 128, 128]⟩
abbrev S256x256 : Shape := ⟨2, ![256, 256]⟩
abbrev S1x128 : Shape := ⟨2, ![1, 128]⟩
abbrev S128x128 : Shape := ⟨2, ![128, 128]⟩
abbrev S1x128x128 : Shape := ⟨3, ![1, 128, 128]⟩
abbrev S32x1x128 : Shape := ⟨3, ![32, 1, 128]⟩
abbrev S20x32x1x1024 : Shape := ⟨4, ![20, 32, 1, 1024]⟩
abbrev S32x20x64x1024 : Shape := ⟨4, ![32, 20, 64, 1024]⟩
abbrev S1024x128 : Shape := ⟨2, ![1024, 128]⟩
abbrev S1x1x128 : Shape := ⟨3, ![1, 1, 128]⟩
abbrev S20x1x1x1024 : Shape := ⟨4, ![20, 1, 1, 1024]⟩
abbrev S1x20x64x1024 : Shape := ⟨4, ![1, 20, 64, 1024]⟩
abbrev S128x1024 : Shape := ⟨2, ![128, 1024]⟩
abbrev S288x256 : Shape := ⟨2, ![288, 256]⟩
abbrev S24x1024 : Shape := ⟨2, ![24, 1024]⟩
abbrev S20x8x1024 : Shape := ⟨3, ![20, 8, 1024]⟩
abbrev S32x128 : Shape := ⟨2, ![32, 128]⟩
abbrev S160x128 : Shape := ⟨2, ![160, 128]⟩
abbrev S1024 : Shape := ⟨1, ![1024]⟩
abbrev S1x1024 : Shape := ⟨2, ![1, 1024]⟩
abbrev S24x1 : Shape := ⟨2, ![24, 1]⟩
abbrev S20x1024 : Shape := ⟨2, ![20, 1024]⟩
abbrev S128x256 : Shape := ⟨2, ![128, 256]⟩
abbrev S16x8x256 : Shape := ⟨3, ![16, 8, 256]⟩
abbrev S8x256 : Shape := ⟨2, ![8, 256]⟩
abbrev S1x8x256 : Shape := ⟨3, ![1, 8, 256]⟩
abbrev S32x256 : Shape := ⟨2, ![32, 256]⟩
abbrev S16x256 : Shape := ⟨2, ![16, 256]⟩
abbrev S64x256 : Shape := ⟨2, ![64, 256]⟩
abbrev S1x1x64x256 : Shape := ⟨4, ![1, 1, 64, 256]⟩
abbrev S20x32x1024 : Shape := ⟨3, ![20, 32, 1024]⟩
abbrev S1024x32x20 : Shape := ⟨3, ![1024, 32, 20]⟩
abbrev S1024x32x20x64 : Shape := ⟨4, ![1024, 32, 20, 64]⟩

abbrev nBuf : Space → Nat
  | .hbm => 15
  | .vmem => 23
  | .smem => 0
  | _ => 0

abbrev bufTy : (tb : Table) → Fin (tcTables nBuf tb) → BufTy
  | .hbm, ⟨0, _⟩ => ⟨S24x256x4096, .bf16⟩
  | .hbm, ⟨1, _⟩ => ⟨S1024x4096, .bf16⟩
  | .hbm, ⟨2, _⟩ => ⟨S4096, .f32⟩
  | .hbm, ⟨3, _⟩ => ⟨S6144x4096, .bf16⟩
  | .hbm, ⟨4, _⟩ => ⟨S1x4096, .f32⟩
  | .hbm, ⟨5, _⟩ => ⟨S32x128x128, .f32⟩
  | .hbm, ⟨6, _⟩ => ⟨S32x1x128, .f32⟩
  | .hbm, ⟨7, _⟩ => ⟨S20x32x1x1024, .f32⟩
  | .hbm, ⟨8, _⟩ => ⟨S32x20x64x1024, .i8⟩
  | .hbm, ⟨9, _⟩ => ⟨S20x32x1x1024, .f32⟩
  | .hbm, ⟨10, _⟩ => ⟨S20x32x1024, .f32⟩
  | .hbm, ⟨11, _⟩ => ⟨S1024x32x20, .f32⟩
  | .hbm, ⟨12, _⟩ => ⟨S20x32x1024, .f32⟩
  | .hbm, ⟨13, _⟩ => ⟨S1024x32x20, .f32⟩
  | .hbm, ⟨14, _⟩ => ⟨S1024x32x20x64, .i8⟩
  | .local _ .vmem, ⟨0, _⟩ => ⟨S6144x256, .bf16⟩
  | .local _ .vmem, ⟨1, _⟩ => ⟨S6144x256, .bf16⟩
  | .local _ .vmem, ⟨2, _⟩ => ⟨S1x256, .f32⟩
  | .local _ .vmem, ⟨3, _⟩ => ⟨S1x256, .f32⟩
  | .local _ .vmem, ⟨4, _⟩ => ⟨S2x128x128, .f32⟩
  | .local _ .vmem, ⟨5, _⟩ => ⟨S2x128x128, .f32⟩
  | .local _ .vmem, ⟨6, _⟩ => ⟨S1x128x128, .f32⟩
  | .local _ .vmem, ⟨7, _⟩ => ⟨S1x128x128, .f32⟩
  | .local _ .vmem, ⟨8, _⟩ => ⟨S1024x128, .bf16⟩
  | .local _ .vmem, ⟨9, _⟩ => ⟨S1024x128, .bf16⟩
  | .local _ .vmem, ⟨10, _⟩ => ⟨S1x1x128, .f32⟩
  | .local _ .vmem, ⟨11, _⟩ => ⟨S1x1x128, .f32⟩
  | .local _ .vmem, ⟨12, _⟩ => ⟨S20x1x1x1024, .f32⟩
  | .local _ .vmem, ⟨13, _⟩ => ⟨S20x1x1x1024, .f32⟩
  | .local _ .vmem, ⟨14, _⟩ => ⟨S1x20x64x1024, .i8⟩
  | .local _ .vmem, ⟨15, _⟩ => ⟨S1x20x64x1024, .i8⟩
  | .local _ .vmem, ⟨16, _⟩ => ⟨S20x1x1x1024, .f32⟩
  | .local _ .vmem, ⟨17, _⟩ => ⟨S20x1x1x1024, .f32⟩
  | .local _ .vmem, ⟨18, _⟩ => ⟨S128x1024, .f32⟩
  | .local _ .vmem, ⟨19, _⟩ => ⟨S128x1024, .f32⟩
  | .local _ .vmem, ⟨20, _⟩ => ⟨S288x256, .bf16⟩
  | .local _ .vmem, ⟨21, _⟩ => ⟨S24x1024, .f32⟩
  | .local _ .vmem, ⟨22, _⟩ => ⟨S20x8x1024, .f32⟩
  | _, _ => ⟨S24x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc1_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6144x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

@[reducible] def k1_t1_loop : Scf.Loop 32 :=
  let c0_i32_52 : BitVec 32 := 0#32
  let c4_i32_53 : BitVec 32 := 4#32
  let v137 : BitVec 32 := Scalar.addi c0_i32_52 c4_i32_53
  let c1_i32_54 : BitVec 32 := 1#32
  ⟨c0_i32_52, v137, c1_i32_54⟩
def k1_mult1 (k1_t1 : Fin k1_t1_loop.trips) : BitVec 32 :=
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  v147
def k1_off1 (k1_t1 : Fin k1_t1_loop.trips) : Fin 2 → Nat :=
  let c0_64 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v149 : Index := Scalar.indexCast v148
  ![0, v149.toNat]
def k1_off2 (k1_t1 : Fin k1_t1_loop.trips) : Fin 2 → Nat :=
  let c0_65 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v151 : Index := Scalar.indexCast v148
  ![0, v151.toNat]
def k1_off3 (k1_t1 : Fin k1_t1_loop.trips) : Fin 3 → Nat :=
  let c0_73 : Index := 0#32
  let c0_74 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v176 : Index := Scalar.indexCast v148
  ![0, 0, v176.toNat]
def k1_off4 (k1_t1 : Fin k1_t1_loop.trips) : Fin 4 → Nat :=
  let c0_77 : Index := 0#32
  let c0_78 : Index := 0#32
  let c0_79 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v194 : Index := Scalar.indexCast v148
  ![0, 0, 0, v194.toNat]
def k1_off5 (k1_t1 : Fin k1_t1_loop.trips) : Fin 2 → Nat :=
  let c1 : Index := 1#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v200 : Index := Scalar.indexCast v148
  ![1, v200.toNat]
def k1_off6 (k1_t1 : Fin k1_t1_loop.trips) : Fin 3 → Nat :=
  let c1_88 : Index := 1#32
  let c0_89 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v225 : Index := Scalar.indexCast v148
  ![1, 0, v225.toNat]
def k1_off7 (k1_t1 : Fin k1_t1_loop.trips) : Fin 4 → Nat :=
  let c0_94 : Index := 0#32
  let c1_95 : Index := 1#32
  let c0_96 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v243 : Index := Scalar.indexCast v148
  ![0, 1, 0, v243.toNat]
def k1_off8 (k1_t1 : Fin k1_t1_loop.trips) : Fin 2 → Nat :=
  let c2 : Index := 2#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v249 : Index := Scalar.indexCast v148
  ![2, v249.toNat]
def k1_off9 (k1_t1 : Fin k1_t1_loop.trips) : Fin 3 → Nat :=
  let c2_105 : Index := 2#32
  let c0_106 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v274 : Index := Scalar.indexCast v148
  ![2, 0, v274.toNat]
def k1_off10 (k1_t1 : Fin k1_t1_loop.trips) : Fin 4 → Nat :=
  let c0_111 : Index := 0#32
  let c2_112 : Index := 2#32
  let c0_113 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v292 : Index := Scalar.indexCast v148
  ![0, 2, 0, v292.toNat]
def k1_off11 (k1_t1 : Fin k1_t1_loop.trips) : Fin 2 → Nat :=
  let c3 : Index := 3#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v298 : Index := Scalar.indexCast v148
  ![3, v298.toNat]
def k1_off12 (k1_t1 : Fin k1_t1_loop.trips) : Fin 3 → Nat :=
  let c3_122 : Index := 3#32
  let c0_123 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v323 : Index := Scalar.indexCast v148
  ![3, 0, v323.toNat]
def k1_off13 (k1_t1 : Fin k1_t1_loop.trips) : Fin 4 → Nat :=
  let c0_128 : Index := 0#32
  let c3_129 : Index := 3#32
  let c0_130 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v341 : Index := Scalar.indexCast v148
  ![0, 3, 0, v341.toNat]
def k1_off14 (k1_t1 : Fin k1_t1_loop.trips) : Fin 2 → Nat :=
  let c4 : Index := 4#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v347 : Index := Scalar.indexCast v148
  ![4, v347.toNat]
def k1_off15 (k1_t1 : Fin k1_t1_loop.trips) : Fin 3 → Nat :=
  let c4_139 : Index := 4#32
  let c0_140 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v372 : Index := Scalar.indexCast v148
  ![4, 0, v372.toNat]
def k1_off16 (k1_t1 : Fin k1_t1_loop.trips) : Fin 4 → Nat :=
  let c0_145 : Index := 0#32
  let c4_146 : Index := 4#32
  let c0_147 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v390 : Index := Scalar.indexCast v148
  ![0, 4, 0, v390.toNat]
def k1_off17 (k1_t1 : Fin k1_t1_loop.trips) : Fin 2 → Nat :=
  let c5 : Index := 5#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v396 : Index := Scalar.indexCast v148
  ![5, v396.toNat]
def k1_off18 (k1_t1 : Fin k1_t1_loop.trips) : Fin 3 → Nat :=
  let c5_156 : Index := 5#32
  let c0_157 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v421 : Index := Scalar.indexCast v148
  ![5, 0, v421.toNat]
def k1_off19 (k1_t1 : Fin k1_t1_loop.trips) : Fin 4 → Nat :=
  let c0_162 : Index := 0#32
  let c5_163 : Index := 5#32
  let c0_164 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v439 : Index := Scalar.indexCast v148
  ![0, 5, 0, v439.toNat]
def k1_off20 (k1_t1 : Fin k1_t1_loop.trips) : Fin 2 → Nat :=
  let c6 : Index := 6#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v445 : Index := Scalar.indexCast v148
  ![6, v445.toNat]
def k1_off21 (k1_t1 : Fin k1_t1_loop.trips) : Fin 3 → Nat :=
  let c6_173 : Index := 6#32
  let c0_174 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v470 : Index := Scalar.indexCast v148
  ![6, 0, v470.toNat]
def k1_off22 (k1_t1 : Fin k1_t1_loop.trips) : Fin 4 → Nat :=
  let c0_179 : Index := 0#32
  let c6_180 : Index := 6#32
  let c0_181 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v488 : Index := Scalar.indexCast v148
  ![0, 6, 0, v488.toNat]
def k1_off23 (k1_t1 : Fin k1_t1_loop.trips) : Fin 2 → Nat :=
  let c7 : Index := 7#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v494 : Index := Scalar.indexCast v148
  ![7, v494.toNat]
def k1_off24 (k1_t1 : Fin k1_t1_loop.trips) : Fin 3 → Nat :=
  let c7_190 : Index := 7#32
  let c0_191 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v519 : Index := Scalar.indexCast v148
  ![7, 0, v519.toNat]
def k1_off25 (k1_t1 : Fin k1_t1_loop.trips) : Fin 4 → Nat :=
  let c0_196 : Index := 0#32
  let c7_197 : Index := 7#32
  let c0_198 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v537 : Index := Scalar.indexCast v148
  ![0, 7, 0, v537.toNat]
def k1_off26 (k1_t1 : Fin k1_t1_loop.trips) : Fin 2 → Nat :=
  let c8 : Index := 8#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v543 : Index := Scalar.indexCast v148
  ![8, v543.toNat]
def k1_off27 (k1_t1 : Fin k1_t1_loop.trips) : Fin 3 → Nat :=
  let c8_207 : Index := 8#32
  let c0_208 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v568 : Index := Scalar.indexCast v148
  ![8, 0, v568.toNat]
def k1_off28 (k1_t1 : Fin k1_t1_loop.trips) : Fin 4 → Nat :=
  let c0_213 : Index := 0#32
  let c8_214 : Index := 8#32
  let c0_215 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v586 : Index := Scalar.indexCast v148
  ![0, 8, 0, v586.toNat]
def k1_off29 (k1_t1 : Fin k1_t1_loop.trips) : Fin 2 → Nat :=
  let c9 : Index := 9#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v592 : Index := Scalar.indexCast v148
  ![9, v592.toNat]
def k1_off30 (k1_t1 : Fin k1_t1_loop.trips) : Fin 3 → Nat :=
  let c9_224 : Index := 9#32
  let c0_225 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v617 : Index := Scalar.indexCast v148
  ![9, 0, v617.toNat]
def k1_off31 (k1_t1 : Fin k1_t1_loop.trips) : Fin 4 → Nat :=
  let c0_230 : Index := 0#32
  let c9_231 : Index := 9#32
  let c0_232 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v635 : Index := Scalar.indexCast v148
  ![0, 9, 0, v635.toNat]
def k1_off32 (k1_t1 : Fin k1_t1_loop.trips) : Fin 2 → Nat :=
  let c10 : Index := 10#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v641 : Index := Scalar.indexCast v148
  ![10, v641.toNat]
def k1_off33 (k1_t1 : Fin k1_t1_loop.trips) : Fin 3 → Nat :=
  let c10_241 : Index := 10#32
  let c0_242 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v666 : Index := Scalar.indexCast v148
  ![10, 0, v666.toNat]
def k1_off34 (k1_t1 : Fin k1_t1_loop.trips) : Fin 4 → Nat :=
  let c0_247 : Index := 0#32
  let c10_248 : Index := 10#32
  let c0_249 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v684 : Index := Scalar.indexCast v148
  ![0, 10, 0, v684.toNat]
def k1_off35 (k1_t1 : Fin k1_t1_loop.trips) : Fin 2 → Nat :=
  let c11 : Index := 11#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v690 : Index := Scalar.indexCast v148
  ![11, v690.toNat]
def k1_off36 (k1_t1 : Fin k1_t1_loop.trips) : Fin 3 → Nat :=
  let c11_258 : Index := 11#32
  let c0_259 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v715 : Index := Scalar.indexCast v148
  ![11, 0, v715.toNat]
def k1_off37 (k1_t1 : Fin k1_t1_loop.trips) : Fin 4 → Nat :=
  let c0_264 : Index := 0#32
  let c11_265 : Index := 11#32
  let c0_266 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v733 : Index := Scalar.indexCast v148
  ![0, 11, 0, v733.toNat]
def k1_off38 (k1_t1 : Fin k1_t1_loop.trips) : Fin 2 → Nat :=
  let c12 : Index := 12#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v739 : Index := Scalar.indexCast v148
  ![12, v739.toNat]
def k1_off39 (k1_t1 : Fin k1_t1_loop.trips) : Fin 3 → Nat :=
  let c12_275 : Index := 12#32
  let c0_276 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v764 : Index := Scalar.indexCast v148
  ![12, 0, v764.toNat]
def k1_off40 (k1_t1 : Fin k1_t1_loop.trips) : Fin 4 → Nat :=
  let c0_281 : Index := 0#32
  let c12_282 : Index := 12#32
  let c0_283 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v782 : Index := Scalar.indexCast v148
  ![0, 12, 0, v782.toNat]
def k1_off41 (k1_t1 : Fin k1_t1_loop.trips) : Fin 2 → Nat :=
  let c13 : Index := 13#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v788 : Index := Scalar.indexCast v148
  ![13, v788.toNat]
def k1_off42 (k1_t1 : Fin k1_t1_loop.trips) : Fin 3 → Nat :=
  let c13_292 : Index := 13#32
  let c0_293 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v813 : Index := Scalar.indexCast v148
  ![13, 0, v813.toNat]
def k1_off43 (k1_t1 : Fin k1_t1_loop.trips) : Fin 4 → Nat :=
  let c0_298 : Index := 0#32
  let c13_299 : Index := 13#32
  let c0_300 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v831 : Index := Scalar.indexCast v148
  ![0, 13, 0, v831.toNat]
def k1_off44 (k1_t1 : Fin k1_t1_loop.trips) : Fin 2 → Nat :=
  let c14 : Index := 14#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v837 : Index := Scalar.indexCast v148
  ![14, v837.toNat]
def k1_off45 (k1_t1 : Fin k1_t1_loop.trips) : Fin 3 → Nat :=
  let c14_309 : Index := 14#32
  let c0_310 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v862 : Index := Scalar.indexCast v148
  ![14, 0, v862.toNat]
def k1_off46 (k1_t1 : Fin k1_t1_loop.trips) : Fin 4 → Nat :=
  let c0_315 : Index := 0#32
  let c14_316 : Index := 14#32
  let c0_317 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v880 : Index := Scalar.indexCast v148
  ![0, 14, 0, v880.toNat]
def k1_off47 (k1_t1 : Fin k1_t1_loop.trips) : Fin 2 → Nat :=
  let c15 : Index := 15#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v886 : Index := Scalar.indexCast v148
  ![15, v886.toNat]
def k1_off48 (k1_t1 : Fin k1_t1_loop.trips) : Fin 3 → Nat :=
  let c15_326 : Index := 15#32
  let c0_327 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v911 : Index := Scalar.indexCast v148
  ![15, 0, v911.toNat]
def k1_off49 (k1_t1 : Fin k1_t1_loop.trips) : Fin 4 → Nat :=
  let c0_332 : Index := 0#32
  let c15_333 : Index := 15#32
  let c0_334 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v929 : Index := Scalar.indexCast v148
  ![0, 15, 0, v929.toNat]
def k1_off50 (k1_t1 : Fin k1_t1_loop.trips) : Fin 2 → Nat :=
  let c16 : Index := 16#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v935 : Index := Scalar.indexCast v148
  ![16, v935.toNat]
def k1_off51 (k1_t1 : Fin k1_t1_loop.trips) : Fin 3 → Nat :=
  let c16_343 : Index := 16#32
  let c0_344 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v960 : Index := Scalar.indexCast v148
  ![16, 0, v960.toNat]
def k1_off52 (k1_t1 : Fin k1_t1_loop.trips) : Fin 4 → Nat :=
  let c0_349 : Index := 0#32
  let c16_350 : Index := 16#32
  let c0_351 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v978 : Index := Scalar.indexCast v148
  ![0, 16, 0, v978.toNat]
def k1_off53 (k1_t1 : Fin k1_t1_loop.trips) : Fin 2 → Nat :=
  let c17 : Index := 17#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v984 : Index := Scalar.indexCast v148
  ![17, v984.toNat]
def k1_off54 (k1_t1 : Fin k1_t1_loop.trips) : Fin 3 → Nat :=
  let c17_360 : Index := 17#32
  let c0_361 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1009 : Index := Scalar.indexCast v148
  ![17, 0, v1009.toNat]
def k1_off55 (k1_t1 : Fin k1_t1_loop.trips) : Fin 4 → Nat :=
  let c0_366 : Index := 0#32
  let c17_367 : Index := 17#32
  let c0_368 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1027 : Index := Scalar.indexCast v148
  ![0, 17, 0, v1027.toNat]
def k1_off56 (k1_t1 : Fin k1_t1_loop.trips) : Fin 2 → Nat :=
  let c18 : Index := 18#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1033 : Index := Scalar.indexCast v148
  ![18, v1033.toNat]
def k1_off57 (k1_t1 : Fin k1_t1_loop.trips) : Fin 3 → Nat :=
  let c18_377 : Index := 18#32
  let c0_378 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1058 : Index := Scalar.indexCast v148
  ![18, 0, v1058.toNat]
def k1_off58 (k1_t1 : Fin k1_t1_loop.trips) : Fin 4 → Nat :=
  let c0_383 : Index := 0#32
  let c18_384 : Index := 18#32
  let c0_385 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1076 : Index := Scalar.indexCast v148
  ![0, 18, 0, v1076.toNat]
def k1_off59 (k1_t1 : Fin k1_t1_loop.trips) : Fin 2 → Nat :=
  let c19 : Index := 19#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1082 : Index := Scalar.indexCast v148
  ![19, v1082.toNat]
def k1_off60 (k1_t1 : Fin k1_t1_loop.trips) : Fin 3 → Nat :=
  let c19_394 : Index := 19#32
  let c0_395 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1107 : Index := Scalar.indexCast v148
  ![19, 0, v1107.toNat]
def k1_off61 (k1_t1 : Fin k1_t1_loop.trips) : Fin 4 → Nat :=
  let c0_400 : Index := 0#32
  let c19_401 : Index := 19#32
  let c0_402 : Index := 0#32
  let c0_i32_52 : BitVec 32 := 0#32
  let c1_i32_54 : BitVec 32 := 1#32
  let arg12 : BitVec 32 := Scf.iv c0_i32_52 c1_i32_54 k1_t1
  let c256_i32 : BitVec 32 := 256#32
  let v147 : BitVec 32 := Scalar.muli arg12 c256_i32
  let v148 : BitVec 32 := v147
  let v1125 : Index := Scalar.indexCast v148
  ![0, 19, 0, v1125.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S20x1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x20x64x1024 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S20x1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "inv_forty" => some ((1 / 40 : ℝ) : EReal)
  | "inv_seven" => some ((1 / 7 : ℝ) : EReal)
  | _ => none
-- ==== ReferenceIdeal.lean ====
abbrev S24x256x4096 : Shape := ⟨3, ![24, 256, 4096]⟩
abbrev S1024x4096 : Shape := ⟨2, ![1024, 4096]⟩
abbrev S4096 : Shape := ⟨1, ![4096]⟩
abbrev S20 : Shape := ⟨1, ![20]⟩
abbrev S_ : Shape := ⟨0, ![]⟩
abbrev S32x128 : Shape := ⟨2, ![32, 128]⟩
abbrev S6144x32x128 : Shape := ⟨3, ![6144, 32, 128]⟩
abbrev S1x32x128 : Shape := ⟨3, ![1, 32, 128]⟩
abbrev S32x128x128 : Shape := ⟨3, ![32, 128, 128]⟩
abbrev S1024x32x128 : Shape := ⟨3, ![1024, 32, 128]⟩
abbrev S32x1024x128 : Shape := ⟨3, ![32, 1024, 128]⟩
abbrev S32x1x128 : Shape := ⟨3, ![32, 1, 128]⟩
abbrev S32x1024 : Shape := ⟨2, ![32, 1024]⟩
abbrev S32x1024x1 : Shape := ⟨3, ![32, 1024, 1]⟩
abbrev S1x1x20 : Shape := ⟨3, ![1, 1, 20]⟩
abbrev S32x1024x20 : Shape := ⟨3, ![32, 1024, 20]⟩
abbrev S32x1024x1x128 : Shape := ⟨4, ![32, 1024, 1, 128]⟩
abbrev S32x1024x20x1 : Shape := ⟨4, ![32, 1024, 20, 1]⟩
abbrev S32x1024x20x128 : Shape := ⟨4, ![32, 1024, 20, 128]⟩
abbrev S32x20480x128 : Shape := ⟨3, ![32, 20480, 128]⟩
abbrev S32x20480 : Shape := ⟨2, ![32, 20480]⟩
abbrev S32x1024x20x64 : Shape := ⟨4, ![32, 1024, 20, 64]⟩
abbrev S1024x32x20 : Shape := ⟨3, ![1024, 32, 20]⟩
abbrev S1024x32x20x64 : Shape := ⟨4, ![1024, 32, 20, 64]⟩

abbrev nBuf : Space → Nat
  | .hbm => 83
  | .vmem => 0
  | .smem => 0
  | _ => 0

abbrev bufTy : (tb : Table) → Fin (tcTables nBuf tb) → BufTy
  | .hbm, ⟨0, _⟩ => ⟨S24x256x4096, .bf16⟩
  | .hbm, ⟨1, _⟩ => ⟨S1024x4096, .bf16⟩
  | .hbm, ⟨2, _⟩ => ⟨S4096, .f32⟩
  | .hbm, ⟨3, _⟩ => ⟨S20, .f32⟩
  | .hbm, ⟨4, _⟩ => ⟨S_, .f32⟩
  | .hbm, ⟨5, _⟩ => ⟨S20, .f32⟩
  | .hbm, ⟨6, _⟩ => ⟨S20, .f32⟩
  | .hbm, ⟨7, _⟩ => ⟨S_, .f32⟩
  | .hbm, ⟨8, _⟩ => ⟨S20, .f32⟩
  | .hbm, ⟨9, _⟩ => ⟨S20, .f32⟩
  | .hbm, ⟨10, _⟩ => ⟨S32x128, .f32⟩
  | .hbm, ⟨11, _⟩ => ⟨S6144x32x128, .bf16⟩
  | .hbm, ⟨12, _⟩ => ⟨S6144x32x128, .f32⟩
  | .hbm, ⟨13, _⟩ => ⟨S1x32x128, .f32⟩
  | .hbm, ⟨14, _⟩ => ⟨S6144x32x128, .f32⟩
  | .hbm, ⟨15, _⟩ => ⟨S6144x32x128, .f32⟩
  | .hbm, ⟨16, _⟩ => ⟨S32x128x128, .f32⟩
  | .hbm, ⟨17, _⟩ => ⟨S1024x32x128, .bf16⟩
  | .hbm, ⟨18, _⟩ => ⟨S32x1024x128, .bf16⟩
  | .hbm, ⟨19, _⟩ => ⟨S32x1024x128, .f32⟩
  | .hbm, ⟨20, _⟩ => ⟨S32x1x128, .f32⟩
  | .hbm, ⟨21, _⟩ => ⟨S32x1024x128, .f32⟩
  | .hbm, ⟨22, _⟩ => ⟨S32x1024x128, .f32⟩
  | .hbm, ⟨23, _⟩ => ⟨S32x1024x128, .f32⟩
  | .hbm, ⟨24, _⟩ => ⟨S_, .f32⟩
  | .hbm, ⟨25, _⟩ => ⟨S32x1024, .f32⟩
  | .hbm, ⟨26, _⟩ => ⟨S32x1024x1, .f32⟩
  | .hbm, ⟨27, _⟩ => ⟨S_, .f32⟩
  | .hbm, ⟨28, _⟩ => ⟨S32x1024x1, .f32⟩
  | .hbm, ⟨29, _⟩ => ⟨S32x1024x1, .i1⟩
  | .hbm, ⟨30, _⟩ => ⟨S32x1024x1, .f32⟩
  | .hbm, ⟨31, _⟩ => ⟨S1x1x20, .f32⟩
  | .hbm, ⟨32, _⟩ => ⟨S32x1024x20, .f32⟩
  | .hbm, ⟨33, _⟩ => ⟨S32x1024x20, .f32⟩
  | .hbm, ⟨34, _⟩ => ⟨S32x1024x20, .f32⟩
  | .hbm, ⟨35, _⟩ => ⟨S_, .f32⟩
  | .hbm, ⟨36, _⟩ => ⟨S32x1024x20, .f32⟩
  | .hbm, ⟨37, _⟩ => ⟨S32x1024x20, .f32⟩
  | .hbm, ⟨38, _⟩ => ⟨S_, .f32⟩
  | .hbm, ⟨39, _⟩ => ⟨S32x1024x20, .i1⟩
  | .hbm, ⟨40, _⟩ => ⟨S32x1024x20, .f32⟩
  | .hbm, ⟨41, _⟩ => ⟨S32x1024x20, .f32⟩
  | .hbm, ⟨42, _⟩ => ⟨S32x1024x1x128, .f32⟩
  | .hbm, ⟨43, _⟩ => ⟨S32x1024x20x1, .f32⟩
  | .hbm, ⟨44, _⟩ => ⟨S32x1024x20x128, .f32⟩
  | .hbm, ⟨45, _⟩ => ⟨S32x1024x20x128, .f32⟩
  | .hbm, ⟨46, _⟩ => ⟨S32x1024x20x128, .f32⟩
  | .hbm, ⟨47, _⟩ => ⟨S32x1024x20x128, .f32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S32x1024x20x128, .f32⟩
  | .hbm, ⟨52, _⟩ => ⟨S32x1024x20x128, .f32⟩
  | .hbm, ⟨53, _⟩ => ⟨S_, .f32⟩
  | .hbm, ⟨54, _⟩ => ⟨S32x1024x20x128, .f32⟩
  | .hbm, ⟨55, _⟩ => ⟨S32x1024x20x128, .f32⟩
  | .hbm, ⟨56, _⟩ => ⟨S32x1024x20x128, .i32⟩
  | .hbm, ⟨57, _⟩ => ⟨S32x1024x1x128, .f32⟩
  | .hbm, ⟨58, _⟩ => ⟨S32x1024x20x128, .f32⟩
  | .hbm, ⟨59, _⟩ => ⟨S32x1024x20x1, .f32⟩
  | .hbm, ⟨60, _⟩ => ⟨S32x1024x20x128, .f32⟩
  | .hbm, ⟨61, _⟩ => ⟨S32x1024x20x128, .f32⟩
  | .hbm, ⟨62, _⟩ => ⟨S32x1024x20x128, .f32⟩
  | .hbm, ⟨63, _⟩ => ⟨S32x1024x20x128, .f32⟩
  | .hbm, ⟨64, _⟩ => ⟨S32x20480x128, .f32⟩
  | .hbm, ⟨65, _⟩ => ⟨S32x20480x128, .f32⟩
  | .hbm, ⟨66, _⟩ => ⟨S32x20480x128, .f32⟩
  | .hbm, ⟨67, _⟩ => ⟨S_, .f32⟩
  | .hbm, ⟨68, _⟩ => ⟨S32x20480, .f32⟩
  | .hbm, ⟨69, _⟩ => ⟨S32x1024x20, .f32⟩
  | .hbm, ⟨70, _⟩ => ⟨S_, .i32⟩
  | .hbm, ⟨71, _⟩ => ⟨S32x1024x20x128, .i32⟩
  | .hbm, ⟨72, _⟩ => ⟨S32x1024x20x128, .i32⟩
  | .hbm, ⟨73, _⟩ => ⟨S32x1024x20x64, .i32⟩
  | .hbm, ⟨74, _⟩ => ⟨S32x1024x20x64, .i32⟩
  | .hbm, ⟨75, _⟩ => ⟨S_, .i32⟩
  | .hbm, ⟨76, _⟩ => ⟨S32x1024x20x64, .i32⟩
  | .hbm, ⟨77, _⟩ => ⟨S32x1024x20x64, .i32⟩
  | .hbm, ⟨78, _⟩ => ⟨S32x1024x20x64, .i32⟩
  | .hbm, ⟨79, _⟩ => ⟨S32x1024x20x64, .i8⟩
  | .hbm, ⟨80, _⟩ => ⟨S1024x32x20, .f32⟩
  | .hbm, ⟨81, _⟩ => ⟨S1024x32x20x64, .i8⟩
  | .hbm, ⟨82, _⟩ => ⟨S1024x32x20, .f32⟩
  | _, _ => ⟨S24x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_c_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Proof.Cols.lean ====
module
public import Idealize.ShloMosaic.Lib.Pointwise
@[expose] public section
set_option maxRecDepth 16384
noncomputable section
namespace Cert.Proof
open Idealize.ShloMosaic

/-! # One output column of the second kernel, as functions of that column alone

For one group and one output row, `u` is the column of scaled weights, `v` the column of Gram-weighted scaled weights,
`ρ` the reciprocal of the candidate scale and `L` the left operand of the step's product. -/

/-- The clipped, rounded code of the weight `u` at the reciprocal scale `ρ`. -/
def code (u ρ : EReal) : EReal :=
  min (Ideal.ofBits FTy.f32 1088421888#32)
    (max (Ideal.ofBits FTy.f32 3235905536#32) (Ideal.liftRound Ideal.roundHalfEven (u * ρ)))

/-- One row of the step's product: the row's two halves, each against the same column of codes. -/
def rowOut (L : Fin 256 → EReal) (u : Fin 128 → EReal) (ρ : EReal) : EReal :=
  (∑ x : Fin 128, L ⟨x.val, by omega⟩ * code (u x) ρ) + ∑ x : Fin 128, L ⟨128 + x.val, by omega⟩ * code (u x) ρ

/-- The partial loss at sublane `s`: the sum over the sixteen rows `8 x + s`. -/
def colPart (u v : Fin 128 → EReal) (ρ : EReal) (L : Fin 288 → Fin 256 → EReal) (s : Fin 8) : EReal :=
  ∑ x : Fin 16, (u ⟨x.val * 8 + s.val, by omega⟩ * ρ - code (u ⟨x.val * 8 + s.val, by omega⟩) ρ) *
    (v ⟨x.val * 8 + s.val, by omega⟩ * ρ -
      (rowOut (L ⟨x.val * 8 + s.val, by omega⟩) u ρ + rowOut (L ⟨128 + (x.val * 8 + s.val), by omega⟩) u ρ))

/-- Four packed codes, read as the bits of a float of the step's product with the packing rows. -/
def field (u : Fin 128 → EReal) (ρ : EReal) (L : Fin 288 → Fin 256 → EReal) (r : Fin 32) : BitVec 32 :=
  IntOp.addi (FloatOps.fptosi (F := Ideal) (φ := .f32) 32 (rowOut (L ⟨256 + r.val, by omega⟩) u ρ + Ideal.ofBits FTy.f32 1258326152#32)) 1249902592#32

/-- The word of eight packed codes. -/
def word (u : Fin 128 → EReal) (ρ : EReal) (L : Fin 288 → Fin 256 → EReal) (r : Fin 16) : BitVec 32 :=
  IntOp.xori (IntOp.xori (field u ρ L ⟨r.val, by omega⟩) (IntOp.shli .vector (field u ρ L ⟨16 + r.val, by omega⟩) 16#32)) 3280504968#32

/-- The byte of two packed codes at byte row `b`. -/
def colByte (u : Fin 128 → EReal) (ρ : EReal) (L : Fin 288 → Fin 256 → EReal) (b : Fin 64) : BitVec 8 :=
  (word u ρ L ⟨b.val / 4, by omega⟩).extractLsb' (8 * (b.val % 4)) 8

end Cert.Proof
end
end
-- ==== Proof.Step.lean ====
module
public import proofs.«01_k».proof.Proof.Gen.KernelIdeal.Frame
public import proofs.«01_k».proof.Proof.Cols
public import Idealize.ShloMosaic.Lib.BitcastFour
@[expose] public section
set_option maxRecDepth 16384
noncomputable section
namespace Cert.KernelIdeal.Gen
open Cert.KernelIdeal Cert.Proof Idealize.ShloMosaic Idealize.ShloMosaic.TcCoe Idealize.SL.Sem

/-- The partial loss a step stores, at an index, is the column function. -/
theorem step_part (a7 : Vec Ideal S128x256 .f32) (r : Vec Ideal S1x256 .f32) (L : Vec Ideal S288x256 .bf16)
    (a8 : Vec Ideal S128x256 .f32) (s : Fin 8) (l : Fin 256) :
    k1_pay9 a7 r L a8 (ix3 0 s l)
      = colPart (fun i => a7 (ix2 i l)) (fun i => a8 (ix2 i l)) (r (ix2 0 l)) (fun a b => L (ix2 a b)) s := by
  pointwise [k1_pay9, k1_pay8, k1_pay7, k1_pay6]
  rfl

/-- A word vector read at eight bits: byte row `b` is byte `b % 4` of word row `b / 4`. -/
theorem bitcast_32_8_ix2 (x : S16x256.Idx → BitVec 32) (h : S16x256.Bitcasts 32 S64x256 8) (b : Fin 64) (l : Fin 256) :
    bitcast S64x256 8 x h (ix2 b l) = (x (ix2 (⟨b.val / 4, by omega⟩ : Fin 16) l)).extractLsb' (8 * (b.val % 4)) 8 := by
  apply BitVec.eq_of_getLsbD_eq
  intro i hi
  rw [bitcast_getLsbD x h _ i hi (by decide), BitVec.getLsbD_extractLsb']
  have hrow : S64x256.row (ix2 b l) = b.val := rfl
  have e : (h.srcIdx (ix2 b l) ((S64x256.row (ix2 b l) * 8 + i) / 32) (fun a ha =>
          (Nat.div_lt_iff_lt_mul (by decide)).2 (h.pos_lt (ix2 b l) i hi a ha))) = ix2 (⟨b.val / 4, by omega⟩ : Fin 16) l := by
    funext c
    match c with
    | ⟨0, _⟩ => exact Fin.ext ((h.srcIdx_row _ _ _ ⟨0, Nat.zero_lt_two⟩ rfl).trans (by
        show (S64x256.row (ix2 b l) * 8 + i) / 32 = b.val / 4
        rw [hrow]; omega))
    | ⟨1, _⟩ => exact Fin.ext (h.srcIdx_other _ _ _ ⟨1, Nat.one_lt_two⟩ (by show ¬ 1 + 2 = 2; omega))
  rw [e, hrow, show (b.val * 8 + i) % 32 = 8 * (b.val % 4) + i by omega]
  simp [hi]

/-- The float bits of four packed codes, at an index, are the column function. -/
theorem step_field (a7 : Vec Ideal S128x256 .f32) (r : Vec Ideal S1x256 .f32) (L : Vec Ideal S288x256 .bf16)
    (q : Fin 32) (l : Fin 256) :
    k1_pay10 a7 r L (ix2 q l) = field (fun i => a7 (ix2 i l)) (r (ix2 0 l)) (fun a b => L (ix2 a b)) q := by
  pointwise [k1_pay10, k1_pay8, k1_pay7, k1_pay6]
  unfold field rowOut code
  rfl

/-- The bytes a step stores, at an index, are the column function. -/
theorem step_byte (a7 : Vec Ideal S128x256 .f32) (r : Vec Ideal S1x256 .f32) (L : Vec Ideal S288x256 .bf16)
    (b : Fin 64) (l : Fin 256) :
    k1_pay13 (k1_pay11 a7 r L) (k1_pay12 a7 r L) (ix4 0 0 b l)
      = colByte (fun i => a7 (ix2 i l)) (r (ix2 0 l)) (fun a b => L (ix2 a b)) b := by
  unfold k1_pay12 k1_pay11
  have h := step_field a7 r L
  generalize k1_pay10 a7 r L = W at h
  pointwise [k1_pay13]
  rw [bitcast_32_8_ix2]
  unfold colByte
  refine congrArg (fun w : BitVec 32 => w.extractLsb' (8 * (b.val % 4)) 8) ?_
  unfold word
  rw [← h, ← h]
  pointwise []

end Cert.KernelIdeal.Gen
end
end
-- ==== Proof.Pieces.lean ====
module
public import proofs.«01_k».proof.Proof.Step
public import Idealize.ShloMosaic.Lib.VecWindow
public import Idealize.ShloMosaic.Lib.Pipeline.ValueKit
@[expose] public section
set_option maxRecDepth 16384
noncomputable section
namespace Cert.KernelIdeal.Gen
open Cert.KernelIdeal Cert.Proof Idealize.ShloMosaic Idealize.ShloMosaic.TcCoe Idealize.SL.Sem

/-- The partial losses the loop leaves, from the four arrays it reads. -/
def partOf (A7 A8 : Vec Ideal S128x1024 .f32) (A9 : Vec Ideal S288x256 .bf16) (A10 : Vec Ideal S24x1024 .f32)
    (k : Fin 20) (s : Fin 8) (l : Fin 1024) : EReal :=
  colPart (fun i => A7 (ix2 i l)) (fun i => A8 (ix2 i l)) (A10 (ix2 (⟨k.val, by omega⟩ : Fin 24) l)) (fun a b => A9 (ix2 a b)) s

/-- The packed codes the loop leaves, from the three arrays it reads. -/
def byteOf (A7 : Vec Ideal S128x1024 .f32) (A9 : Vec Ideal S288x256 .bf16) (A10 : Vec Ideal S24x1024 .f32)
    (k : Fin 20) (b : Fin 64) (l : Fin 1024) : BitVec 8 :=
  colByte (fun i => A7 (ix2 i l)) (A10 (ix2 (⟨k.val, by omega⟩ : Fin 24) l)) (fun a b => A9 (ix2 a b)) b

/-- A rank-2 window at an index. -/
theorem window2 {α : Type} {a b m n : ℕ} (x : (⟨2, ![a, b]⟩ : Shape).Idx → α) (p q : ℕ)
    (inb : ∀ c, (![p, q] : Fin 2 → ℕ) c + (⟨2, ![m, n]⟩ : Shape).size c ≤ (⟨2, ![a, b]⟩ : Shape).size c)
    (i : Fin m) (l : Fin n) (i' : Fin a) (l' : Fin b) (hi : i'.val = p + i.val) (hl : l'.val = q + l.val) :
    VecWindow.window x ![p, q] (⟨2, ![m, n]⟩ : Shape).size inb (ix2 i l) = x (ix2 i' l') := by
  refine congrArg x (funext fun c => ?_)
  match c with
  | ⟨0, _⟩ => exact Fin.ext ((ValueKit.rect_emb_unit_val _ _ _ _ _).trans hi.symm)
  | ⟨1, _⟩ => exact Fin.ext ((ValueKit.rect_emb_unit_val _ _ _ _ _).trans hl.symm)

section Pieces
variable (arg7 : Memref sig .tc .vmem S128x1024 .f32) (arg8 : Memref sig .tc .vmem S128x1024 .f32)
  (arg9 : Memref sig .tc .vmem S288x256 .bf16) (arg10 : Memref sig .tc .vmem S24x1024 .f32)
  (X7 : BufTy.Contents (Elt Ideal) arg7.view.ty) (X8 : BufTy.Contents (Elt Ideal) arg8.view.ty)
  (X9 : BufTy.Contents (Elt Ideal) arg9.view.ty) (X10 : BufTy.Contents (Elt Ideal) arg10.view.ty)

/-- One step's partial losses, where they are stored, are the loop's. -/
theorem part_piece (t n : ℕ) (ht : t < 4) (hn : n < 20) {o1 o2 : Fin 2 → ℕ} {o3 : Fin 3 → ℕ} (inb1 inb1' inb9 inb2 inb3)
    (h1 : o1 = ![0, 256 * t]) (h2 : o2 = ![n, 256 * t]) (h3 : o3 = ![n, 0, 256 * t]) (j : S1x8x256.Idx) :
    k1_pay9 (View.readAt (Elt Ideal) arg7.view (Rect.unit (s := S128x1024) o1 S128x256.size inb1).toLoadRect X7)
        (View.readAt (Elt Ideal) arg10.view (Rect.unit (s := S24x1024) o2 S1x256.size inb2).toLoadRect X10)
        (View.readAt (Elt Ideal) arg9.view (Rect.unit (s := S288x256) ![0, 0] S288x256.size inb9).toLoadRect X9)
        (View.readAt (Elt Ideal) arg8.view (Rect.unit (s := S128x1024) o1 S128x256.size inb1').toLoadRect X8) j
      = (fun y : S20x8x1024.Idx => partOf (arg7.view.read (Elt Ideal) X7) (arg8.view.read (Elt Ideal) X8)
          (arg9.view.read (Elt Ideal) X9) (arg10.view.read (Elt Ideal) X10) (y 0) (y 1) (y 2))
          ((Rect.unit (s := S20x8x1024) o3 S1x8x256.size inb3).emb j) := by
  subst h1 h2 h3
  rw [View.readAt_full, View.readAt_unit _ _ _ rfl inb1, View.readAt_unit _ _ _ rfl inb1', View.readAt_unit _ _ _ rfl inb2]
  obtain ⟨z, s, l, rfl⟩ : ∃ z s l, j = ix3 z s l := ⟨j 0, j 1, j 2, by idx_ext⟩
  obtain rfl : z = 0 := Subsingleton.elim _ _
  rw [step_part]
  have e0 : ((Rect.unit (s := S20x8x1024) ![n, 0, 256 * t] S1x8x256.size inb3).emb (ix3 0 s l)) 0 = (⟨n, hn⟩ : Fin 20) :=
    Fin.ext (ValueKit.rect_emb_unit_val _ _ _ _ _)
  have e1 : ((Rect.unit (s := S20x8x1024) ![n, 0, 256 * t] S1x8x256.size inb3).emb (ix3 0 s l)) 1 = s :=
    Fin.ext ((ValueKit.rect_emb_unit_val _ _ _ _ _).trans (Nat.zero_add _))
  have e2 : ((Rect.unit (s := S20x8x1024) ![n, 0, 256 * t] S1x8x256.size inb3).emb (ix3 0 s l)) 2
      = (⟨256 * t + l.val, by omega⟩ : Fin 1024) := Fin.ext (ValueKit.rect_emb_unit_val _ _ _ _ _)
  beta_reduce
  rw [e0, e1, e2]
  unfold partOf
  congr 1
  · funext i; exact window2 _ _ _ _ _ _ _ _ (Nat.zero_add _).symm rfl
  · funext i; exact window2 _ _ _ _ _ _ _ _ (Nat.zero_add _).symm rfl
  · exact window2 _ _ _ _ _ _ _ _ rfl rfl

/-- One step's bytes, where they are stored, are the loop's. -/
theorem byte_piece (t n : ℕ) (ht : t < 4) (hn : n < 20) {o1 o2 : Fin 2 → ℕ} {o4 : Fin 4 → ℕ} (inb1 inb9 inb2 inb4)
    (h1 : o1 = ![0, 256 * t]) (h2 : o2 = ![n, 256 * t]) (h4 : o4 = ![0, n, 0, 256 * t]) (j : S1x1x64x256.Idx) :
    k1_pay13 (k1_pay11 (View.readAt (Elt Ideal) arg7.view (Rect.unit (s := S128x1024) o1 S128x256.size inb1).toLoadRect X7)
        (View.readAt (Elt Ideal) arg10.view (Rect.unit (s := S24x1024) o2 S1x256.size inb2).toLoadRect X10)
        (View.readAt (Elt Ideal) arg9.view (Rect.unit (s := S288x256) ![0, 0] S288x256.size inb9).toLoadRect X9))
       (k1_pay12 (View.readAt (Elt Ideal) arg7.view (Rect.unit (s := S128x1024) o1 S128x256.size inb1).toLoadRect X7)
        (View.readAt (Elt Ideal) arg10.view (Rect.unit (s := S24x1024) o2 S1x256.size inb2).toLoadRect X10)
        (View.readAt (Elt Ideal) arg9.view (Rect.unit (s := S288x256) ![0, 0] S288x256.size inb9).toLoadRect X9)) j
      = (fun y : S1x20x64x1024.Idx => byteOf (arg7.view.read (Elt Ideal) X7)
          (arg9.view.read (Elt Ideal) X9) (arg10.view.read (Elt Ideal) X10) (y 1) (y 2) (y 3))
          ((Rect.unit (s := S1x20x64x1024) o4 S1x1x64x256.size inb4).emb j) := by
  subst h1 h2 h4
  rw [View.readAt_full, View.readAt_unit _ _ _ rfl inb1, View.readAt_unit _ _ _ rfl inb2]
  obtain ⟨z, z', s, l, rfl⟩ : ∃ z z' s l, j = ix4 z z' s l := ⟨j 0, j 1, j 2, j 3, by idx_ext⟩
  obtain rfl : z = 0 := Subsingleton.elim _ _
  obtain rfl : z' = 0 := Subsingleton.elim _ _
  rw [step_byte]
  have e0 : ((Rect.unit (s := S1x20x64x1024) ![0, n, 0, 256 * t] S1x1x64x256.size inb4).emb (ix4 0 0 s l)) 1 = (⟨n, hn⟩ : Fin 20) :=
    Fin.ext (ValueKit.rect_emb_unit_val _ _ _ _ _)
  have e1 : ((Rect.unit (s := S1x20x64x1024) ![0, n, 0, 256 * t] S1x1x64x256.size inb4).emb (ix4 0 0 s l)) 2 = s :=
    Fin.ext ((ValueKit.rect_emb_unit_val _ _ _ _ _).trans (Nat.zero_add _))
  have e2 : ((Rect.unit (s := S1x20x64x1024) ![0, n, 0, 256 * t] S1x1x64x256.size inb4).emb (ix4 0 0 s l)) 3
      = (⟨256 * t + l.val, by omega⟩ : Fin 1024) := Fin.ext (ValueKit.rect_emb_unit_val _ _ _ _ _)
  beta_reduce
  rw [e0, e1, e2]
  unfold byteOf
  congr 1
  · funext i; exact window2 _ _ _ _ _ _ _ _ (Nat.zero_add _).symm rfl
  · exact window2 _ _ _ _ _ _ _ _ rfl rfl

end Pieces

end Cert.KernelIdeal.Gen
end
end
-- ==== Proof.Trips.lean ====
module
public import proofs.«01_k».proof.Proof.Pieces
@[expose] public section
set_option maxRecDepth 16384
noncomputable section
namespace Cert.KernelIdeal.Gen
open Cert.KernelIdeal Cert.Proof Idealize.ShloMosaic Idealize.ShloMosaic.TcCoe Idealize.SL.Sem

/-- Every piece of the list holds `G` at its place. -/
def PiecesOf {s : Shape} {e : EltTy} (G : s.Idx → Elt Ideal e) (L : List (View.Piece (Elt Ideal) s e)) : Prop :=
  ∀ pc ∈ L, ∀ j, pc.2 j = G (pc.1.emb j)

/-- No piece at all holds anything. -/
theorem PiecesOf.nil {s : Shape} {e : EltTy} (G : s.Idx → Elt Ideal e) : PiecesOf G [] := fun _ h => absurd h List.not_mem_nil

/-- A list of pieces holds `G` when its head and its tail do. -/
theorem PiecesOf.cons {s : Shape} {e : EltTy} {G : s.Idx → Elt Ideal e} {R : Rect s} {w : R.shape.Idx → Elt Ideal e}
    {L : List (View.Piece (Elt Ideal) s e)} (h : ∀ j, w j = G (R.emb j)) (hL : PiecesOf G L) : PiecesOf G (⟨R, w⟩ :: L) :=
  List.forall_mem_cons.2 ⟨h, hL⟩

/-- Two lists of pieces that hold `G` hold it together. -/
theorem PiecesOf.append {s : Shape} {e : EltTy} {G : s.Idx → Elt Ideal e} {L L' : List (View.Piece (Elt Ideal) s e)}
    (h : PiecesOf G L) (h' : PiecesOf G L') : PiecesOf G (L ++ L') :=
  fun pc hpc => (List.mem_append.1 hpc).elim (h pc) (h' pc)

section Trips
variable (𝒱 : Variants) (c : Dev nD) (bd : Option 𝒱.V) (i : grid1.Coords) (arg1 : Memref sig .tc .vmem S1x128x128 .f32) (harg1 : arg1.IsWhole) (arg2 : Memref sig .tc .vmem S1024x128 .bf16) (harg2 : arg2.IsWhole) (arg3 : Memref sig .tc .vmem S1x1x128 .f32) (harg3 : arg3.IsWhole) (arg4 : Memref sig .tc .vmem S20x1x1x1024 .f32) (harg4 : arg4.IsWhole) (arg5 : Memref sig .tc .vmem S1x20x64x1024 .i8) (harg5 : arg5.IsWhole) (arg6 : Memref sig .tc .vmem S20x1x1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S288x256 .bf16) (harg9 : arg9.IsWhole) (arg10 : Memref sig .tc .vmem S24x1024 .f32) (harg10 : arg10.IsWhole) (arg11 : Memref sig .tc .vmem S20x8x1024 .f32) (harg11 : arg11.IsWhole) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty)

/-- Every piece a trip of the loop stores into the partial losses holds the loop's partial losses at its place. -/
theorem trip_part (k : Fin k1_t1_loop.trips) :
    PiecesOf (fun y : S20x8x1024.Idx => partOf (arg7.view.read (Elt Ideal) X_arg7) (arg8.view.read (Elt Ideal) X_arg8)
          (arg9.view.read (Elt Ideal) X_arg9) (arg10.view.read (Elt Ideal) X_arg10) (y 0) (y 1) (y 2))
      (trip_k1_t1 (F := Ideal) 𝒱 c bd i arg1 harg1 arg2 harg2 arg3 harg3 arg4 harg4 arg5 harg5 arg6 harg6 arg7 harg7 arg8 harg8 arg9 harg9 arg10 harg10 arg11 harg11 X_arg7 X_arg8 X_arg9 X_arg10 k).2.1 := by
  have hk : k.val < 4 := Nat.lt_of_lt_of_le k.isLt k1_t1_abs.2.1
  have h (n : ℕ) (hn : n < 20) {o2 : Fin 2 → ℕ} {o3 : Fin 3 → ℕ} (inb1 inb1' inb9 inb2 inb3)
      (h2 : o2 = ![n, 256 * k.val]) (h3 : o3 = ![n, 0, 256 * k.val]) :=
    part_piece arg7 arg8 arg9 arg10 X_arg7 X_arg8 X_arg9 X_arg10 k.val n hk hn inb1 inb1' inb9 inb2 inb3
      ((by decide +kernel : ∀ k : Fin k1_t1_loop.trips, k1_off1 k = ![0, 256 * k.val]) k) h2 h3
  unfold trip_k1_t1
  refine PiecesOf.cons (fun j => h 19 (by decide) _ _ _ _ _
    ((by decide +kernel : ∀ k : Fin k1_t1_loop.trips, k1_off59 k = ![19, 256 * k.val]) k)
    ((by decide +kernel : ∀ k : Fin k1_t1_loop.trips, k1_off60 k = ![19, 0, 256 * k.val]) k) j) ?_
  refine PiecesOf.cons (fun j => h 18 (by decide) _ _ _ _ _
    ((by decide +kernel : ∀ k : Fin k1_t1_loop.trips, k1_off56 k = ![18, 256 * k.val]) k)
    ((by decide +kernel : ∀ k : Fin k1_t1_loop.trips, k1_off57 k = ![18, 0, 256 * k.val]) k) j) ?_
  refine PiecesOf.cons (fun j => h 17 (by decide) _ _ _ _ _
    ((by decide +kernel : ∀ k : Fin k1_t1_loop.trips, k1_off53 k = ![17, 256 * k.val]) k)
    ((by decide +kernel : ∀ k : Fin k1_t1_loop.trips, k1_off54 k = ![17, 0, 256 * k.val]) k) j) ?_
  refine PiecesOf.cons (fun j => h 16 (by decide) _ _ _ _ _
    ((by decide +kernel : ∀ k : Fin k1_t1_loop.trips, k1_off50 k = ![16, 256 * k.val]) k)
    ((by decide +kernel : ∀ k : Fin k1_t1_loop.trips, k1_off51 k = ![16, 0, 256 * k.val]) k) j) ?_
  refine PiecesOf.cons (fun j => h 15 (by decide) _ _ _ _ _
    ((by decide +kernel : ∀ k : Fin k1_t1_loop.trips, k1_off47 k = ![15, 256 * k.val]) k)
    ((by decide +kernel : ∀ k : Fin k1_t1_loop.trips, k1_off48 k = ![15, 0, 256 * k.val]) k) j) ?_
  refine PiecesOf.cons (fun j => h 14 (by decide) _ _ _ _ _
    ((by decide +kernel : ∀ k : Fin k1_t1_loop.trips, k1_off44 k = ![14, 256 * k.val]) k)
    ((by decide +kernel : ∀ k : Fin k1_t1_loop.trips, k1_off45 k = ![14, 0, 256 * k.val]) k) j) ?_
  refine PiecesOf.cons (fun j => h 13 (by decide) _ _ _ _ _
    ((by decide +kernel : ∀ k : Fin k1_t1_loop.trips, k1_off41 k = ![13, 256 * k.val]) k)
    ((by decide +kernel : ∀ k : Fin k1_t1_loop.trips, k1_off42 k = ![13, 0, 256 * k.val]) k) j) ?_
  refine PiecesOf.cons (fun j => h 12 (by decide) _ _ _ _ _
    ((by decide +kernel : ∀ k : Fin k1_t1_loop.trips, k1_off38 k = ![12, 256 * k.val]) k)
    ((by decide +kernel : ∀ k : Fin k1_t1_loop.trips, k1_off39 k = ![12, 0, 256 * k.val]) k) j) ?_
  refine PiecesOf.cons (fun j => h 11 (by decide) _ _ _ _ _
    ((by decide +kernel : ∀ k : Fin k1_t1_loop.trips, k1_off35 k = ![11, 256 * k.val]) k)
    ((by decide +kernel : ∀ k : Fin k1_t1_loop.trips, k1_off36 k = ![11, 0, 256 * k.val]) k) j) ?_
  refine PiecesOf.cons (fun j => h 10 (by decide) _ _ _ _ _
    ((by decide +kernel : ∀ k : Fin k1_t1_loop.trips, k1_off32 k = ![10, 256 * k.val]) k)
    ((by decide +kernel : ∀ k : Fin k1_t1_loop.trips, k1_off33 k = ![10, 0, 256 * k.val]) k) j) ?_
  refine PiecesOf.cons (fun j => h 9 (by decide) _ _ _ _ _
    ((by decide +kernel : ∀ k : Fin k1_t1_loop.trips, k1_off29 k = ![9, 256 * k.val]) k)
    ((by decide +kernel : ∀ k : Fin k1_t1_loop.trips, k1_off30 k = ![9, 0, 256 * k.val]) k) j) ?_
  refine PiecesOf.cons (fun j => h 8 (by decide) _ _ _ _ _
    ((by decide +kernel : ∀ k : Fin k1_t1_loop.trips, k1_off26 k = ![8, 256 * k.val]) k)
    ((by decide +kernel : ∀ k : Fin k1_t1_loop.trips, k1_off27 k = ![8, 0, 256 * k.val]) k) j) ?_
  refine PiecesOf.cons (fun j => h 7 (by decide) _ _ _ _ _
    ((by decide +kernel : ∀ k : Fin k1_t1_loop.trips, k1_off23 k = ![7, 256 * k.val]) k)
    ((by decide +kernel : ∀ k : Fin k1_t1_loop.trips, k1_off24 k = ![7, 0, 256 * k.val]) k) j) ?_
  refine PiecesOf.cons (fun j => h 6 (by decide) _ _ _ _ _
    ((by decide +kernel : ∀ k : Fin k1_t1_loop.trips, k1_off20 k = ![6, 256 * k.val]) k)
    ((by decide +kernel : ∀ k : Fin k1_t1_loop.trips, k1_off21 k = ![6, 0, 256 * k.val]) k) j) ?_
  refine PiecesOf.cons (fun j => h 5 (by decide) _ _ _ _ _
    ((by decide +kernel : ∀ k : Fin k1_t1_loop.trips, k1_off17 k = ![5, 256 * k.val]) k)
    ((by decide +kernel : ∀ k : Fin k1_t1_loop.trips, k1_off18 k = ![5, 0, 256 * k.val]) k) j) ?_
  refine PiecesOf.cons (fun j => h 4 (by decide) _ _ _ _ _
    ((by decide +kernel : ∀ k : Fin k1_t1_loop.trips, k1_off14 k = ![4, 256 * k.val]) k)
    ((by decide +kernel : ∀ k : Fin k1_t1_loop.trips, k1_off15 k = ![4, 0, 256 * k.val]) k) j) ?_
  refine PiecesOf.cons (fun j => h 3 (by decide) _ _ _ _ _
    ((by decide +kernel : ∀ k : Fin k1_t1_loop.trips, k1_off11 k = ![3, 256 * k.val]) k)
    ((by decide +kernel : ∀ k : Fin k1_t1_loop.trips, k1_off12 k = ![3, 0, 256 * k.val]) k) j) ?_
  refine PiecesOf.cons (fun j => h 2 (by decide) _ _ _ _ _
    ((by decide +kernel : ∀ k : Fin k1_t1_loop.trips, k1_off8 k = ![2, 256 * k.val]) k)
    ((by decide +kernel : ∀ k : Fin k1_t1_loop.trips, k1_off9 k = ![2, 0, 256 * k.val]) k) j) ?_
  refine PiecesOf.cons (fun j => h 1 (by decide) _ _ _ _ _
    ((by decide +kernel : ∀ k : Fin k1_t1_loop.trips, k1_off5 k = ![1, 256 * k.val]) k)
    ((by decide +kernel : ∀ k : Fin k1_t1_loop.trips, k1_off6 k = ![1, 0, 256 * k.val]) k) j) ?_
  refine PiecesOf.cons (fun j => h 0 (by decide) _ _ _ _ _
    ((by decide +kernel : ∀ k : Fin k1_t1_loop.trips, k1_off2 k = ![0, 256 * k.val]) k)
    ((by decide +kernel : ∀ k : Fin k1_t1_loop.trips, k1_off3 k = ![0, 0, 256 * k.val]) k) j) ?_
  exact PiecesOf.nil _

/-- Every piece a trip of the loop stores into the codes holds the loop's codes at its place. -/
theorem trip_byte (k : Fin k1_t1_loop.trips) :
    PiecesOf (fun y : S1x20x64x1024.Idx => byteOf (arg7.view.read (Elt Ideal) X_arg7)
          (arg9.view.read (Elt Ideal) X_arg9) (arg10.view.read (Elt Ideal) X_arg10) (y 1) (y 2) (y 3))
      (trip_k1_t1 (F := Ideal) 𝒱 c bd i arg1 harg1 arg2 harg2 arg3 harg3 arg4 harg4 arg5 harg5 arg6 harg6 arg7 harg7 arg8 harg8 arg9 harg9 arg10 harg10 arg11 harg11 X_arg7 X_arg8 X_arg9 X_arg10 k).1 := by
  have hk : k.val < 4 := Nat.lt_of_lt_of_le k.isLt k1_t1_abs.2.1
  have h (n : ℕ) (hn : n < 20) {o2 : Fin 2 → ℕ} {o4 : Fin 4 → ℕ} (inb1 inb9 inb2 inb4)
      (h2 : o2 = ![n, 256 * k.val]) (h4 : o4 = ![0, n, 0, 256 * k.val]) :=
    byte_piece arg7 arg9 arg10 X_arg7 X_arg9 X_arg10 k.val n hk hn inb1 inb9 inb2 inb4
      ((by decide +kernel : ∀ k : Fin k1_t1_loop.trips, k1_off1 k = ![0, 256 * k.val]) k) h2 h4
  unfold trip_k1_t1
  refine PiecesOf.cons (fun j => h 19 (by decide) _ _ _ _
    ((by decide +kernel : ∀ k : Fin k1_t1_loop.trips, k1_off59 k = ![19, 256 * k.val]) k)
    ((by decide +kernel : ∀ k : Fin k1_t1_loop.trips, k1_off61 k = ![0, 19, 0, 256 * k.val]) k) j) ?_
  refine PiecesOf.cons (fun j => h 18 (by decide) _ _ _ _
    ((by decide +kernel : ∀ k : Fin k1_t1_loop.trips, k1_off56 k = ![18, 256 * k.val]) k)
    ((by decide +kernel : ∀ k : Fin k1_t1_loop.trips, k1_off58 k = ![0, 18, 0, 256 * k.val]) k) j) ?_
  refine PiecesOf.cons (fun j => h 17 (by decide) _ _ _ _
    ((by decide +kernel : ∀ k : Fin k1_t1_loop.trips, k1_off53 k = ![17, 256 * k.val]) k)
    ((by decide +kernel : ∀ k : Fin k1_t1_loop.trips, k1_off55 k = ![0, 17, 0, 256 * k.val]) k) j) ?_
  refine PiecesOf.cons (fun j => h 16 (by decide) _ _ _ _
    ((by decide +kernel : ∀ k : Fin k1_t1_loop.trips, k1_off50 k = ![16, 256 * k.val]) k)
    ((by decide +kernel : ∀ k : Fin k1_t1_loop.trips, k1_off52 k = ![0, 16, 0, 256 * k.val]) k) j) ?_
  refine PiecesOf.cons (fun j => h 15 (by decide) _ _ _ _
    ((by decide +kernel : ∀ k : Fin k1_t1_loop.trips, k1_off47 k = ![15, 256 * k.val]) k)
    ((by decide +kernel : ∀ k : Fin k1_t1_loop.trips, k1_off49 k = ![0, 15, 0, 256 * k.val]) k) j) ?_
  refine PiecesOf.cons (fun j => h 14 (by decide) _ _ _ _
    ((by decide +kernel : ∀ k : Fin k1_t1_loop.trips, k1_off44 k = ![14, 256 * k.val]) k)
    ((by decide +kernel : ∀ k : Fin k1_t1_loop.trips, k1_off46 k = ![0, 14, 0, 256 * k.val]) k) j) ?_
  refine PiecesOf.cons (fun j => h 13 (by decide) _ _ _ _
    ((by decide +kernel : ∀ k : Fin k1_t1_loop.trips, k1_off41 k = ![13, 256 * k.val]) k)
    ((by decide +kernel : ∀ k : Fin k1_t1_loop.trips, k1_off43 k = ![0, 13, 0, 256 * k.val]) k) j) ?_
  refine PiecesOf.cons (fun j => h 12 (by decide) _ _ _ _
    ((by decide +kernel : ∀ k : Fin k1_t1_loop.trips, k1_off38 k = ![12, 256 * k.val]) k)
    ((by decide +kernel : ∀ k : Fin k1_t1_loop.trips, k1_off40 k = ![0, 12, 0, 256 * k.val]) k) j) ?_
  refine PiecesOf.cons (fun j => h 11 (by decide) _ _ _ _
    ((by decide +kernel : ∀ k : Fin k1_t1_loop.trips, k1_off35 k = ![11, 256 * k.val]) k)
    ((by decide +kernel : ∀ k : Fin k1_t1_loop.trips, k1_off37 k = ![0, 11, 0, 256 * k.val]) k) j) ?_
  refine PiecesOf.cons (fun j => h 10 (by decide) _ _ _ _
    ((by decide +kernel : ∀ k : Fin k1_t1_loop.trips, k1_off32 k = ![10, 256 * k.val]) k)
    ((by decide +kernel : ∀ k : Fin k1_t1_loop.trips, k1_off34 k = ![0, 10, 0, 256 * k.val]) k) j) ?_
  refine PiecesOf.cons (fun j => h 9 (by decide) _ _ _ _
    ((by decide +kernel : ∀ k : Fin k1_t1_loop.trips, k1_off29 k = ![9, 256 * k.val]) k)
    ((by decide +kernel : ∀ k : Fin k1_t1_loop.trips, k1_off31 k = ![0, 9, 0, 256 * k.val]) k) j) ?_
  refine PiecesOf.cons (fun j => h 8 (by decide) _ _ _ _
    ((by decide +kernel : ∀ k : Fin k1_t1_loop.trips, k1_off26 k = ![8, 256 * k.val]) k)
    ((by decide +kernel : ∀ k : Fin k1_t1_loop.trips, k1_off28 k = ![0, 8, 0, 256 * k.val]) k) j) ?_
  refine PiecesOf.cons (fun j => h 7 (by decide) _ _ _ _
    ((by decide +kernel : ∀ k : Fin k1_t1_loop.trips, k1_off23 k = ![7, 256 * k.val]) k)
    ((by decide +kernel : ∀ k : Fin k1_t1_loop.trips, k1_off25 k = ![0, 7, 0, 256 * k.val]) k) j) ?_
  refine PiecesOf.cons (fun j => h 6 (by decide) _ _ _ _
    ((by decide +kernel : ∀ k : Fin k1_t1_loop.trips, k1_off20 k = ![6, 256 * k.val]) k)
    ((by decide +kernel : ∀ k : Fin k1_t1_loop.trips, k1_off22 k = ![0, 6, 0, 256 * k.val]) k) j) ?_
  refine PiecesOf.cons (fun j => h 5 (by decide) _ _ _ _
    ((by decide +kernel : ∀ k : Fin k1_t1_loop.trips, k1_off17 k = ![5, 256 * k.val]) k)
    ((by decide +kernel : ∀ k : Fin k1_t1_loop.trips, k1_off19 k = ![0, 5, 0, 256 * k.val]) k) j) ?_
  refine PiecesOf.cons (fun j => h 4 (by decide) _ _ _ _
    ((by decide +kernel : ∀ k : Fin k1_t1_loop.trips, k1_off14 k = ![4, 256 * k.val]) k)
    ((by decide +kernel : ∀ k : Fin k1_t1_loop.trips, k1_off16 k = ![0, 4, 0, 256 * k.val]) k) j) ?_
  refine PiecesOf.cons (fun j => h 3 (by decide) _ _ _ _
    ((by decide +kernel : ∀ k : Fin k1_t1_loop.trips, k1_off11 k = ![3, 256 * k.val]) k)
    ((by decide +kernel : ∀ k : Fin k1_t1_loop.trips, k1_off13 k = ![0, 3, 0, 256 * k.val]) k) j) ?_
  refine PiecesOf.cons (fun j => h 2 (by decide) _ _ _ _
    ((by decide +kernel : ∀ k : Fin k1_t1_loop.trips, k1_off8 k = ![2, 256 * k.val]) k)
    ((by decide +kernel : ∀ k : Fin k1_t1_loop.trips, k1_off10 k = ![0, 2, 0, 256 * k.val]) k) j) ?_
  refine PiecesOf.cons (fun j => h 1 (by decide) _ _ _ _
    ((by decide +kernel : ∀ k : Fin k1_t1_loop.trips, k1_off5 k = ![1, 256 * k.val]) k)
    ((by decide +kernel : ∀ k : Fin k1_t1_loop.trips, k1_off7 k = ![0, 1, 0, 256 * k.val]) k) j) ?_
  refine PiecesOf.cons (fun j => h 0 (by decide) _ _ _ _
    ((by decide +kernel : ∀ k : Fin k1_t1_loop.trips, k1_off2 k = ![0, 256 * k.val]) k)
    ((by decide +kernel : ∀ k : Fin k1_t1_loop.trips, k1_off4 k = ![0, 0, 0, 256 * k.val]) k) j) ?_
  exact PiecesOf.nil _

/-- Every piece the loop's first `n` trips store holds the loop's codes, or its partial losses, at its place. -/
theorem pb_pieces (n : ℕ) (hn : n ≤ k1_t1_loop.trips) :
    (PiecesOf (fun y : S1x20x64x1024.Idx => byteOf (arg7.view.read (Elt Ideal) X_arg7)
          (arg9.view.read (Elt Ideal) X_arg9) (arg10.view.read (Elt Ideal) X_arg10) (y 1) (y 2) (y 3))
      (pb_k1_t1 (F := Ideal) 𝒱 c bd i arg1 harg1 arg2 harg2 arg3 harg3 arg4 harg4 arg5 harg5 arg6 harg6 arg7 harg7 arg8 harg8 arg9 harg9 arg10 harg10 arg11 harg11 X_arg7 X_arg8 X_arg9 X_arg10 n).1) ∧
    (PiecesOf (fun y : S20x8x1024.Idx => partOf (arg7.view.read (Elt Ideal) X_arg7) (arg8.view.read (Elt Ideal) X_arg8)
          (arg9.view.read (Elt Ideal) X_arg9) (arg10.view.read (Elt Ideal) X_arg10) (y 0) (y 1) (y 2))
      (pb_k1_t1 (F := Ideal) 𝒱 c bd i arg1 harg1 arg2 harg2 arg3 harg3 arg4 harg4 arg5 harg5 arg6 harg6 arg7 harg7 arg8 harg8 arg9 harg9 arg10 harg10 arg11 harg11 X_arg7 X_arg8 X_arg9 X_arg10 n).2) := by
  induction n with
  | zero => exact ⟨PiecesOf.nil _, PiecesOf.nil _⟩
  | succ n ih =>
    have ih := ih (by omega)
    have e := pb_k1_t1_succ (F := Ideal) 𝒱 c bd i arg1 harg1 arg2 harg2 arg3 harg3 arg4 harg4 arg5 harg5 arg6 harg6 arg7 harg7 arg8 harg8 arg9 harg9 arg10 harg10 arg11 harg11 X_arg7 X_arg8 X_arg9 X_arg10 ⟨n, by omega⟩
    rw [show (⟨n, by omega⟩ : Fin k1_t1_loop.trips).val = n from rfl] at e
    rw [e]
    exact ⟨(trip_byte 𝒱 c bd i arg1 harg1 arg2 harg2 arg3 harg3 arg4 harg4 arg5 harg5 arg6 harg6 arg7 harg7 arg8 harg8 arg9 harg9 arg10 harg10 arg11 harg11 X_arg7 X_arg8 X_arg9 X_arg10 _).append ih.1, (trip_part 𝒱 c bd i arg1 harg1 arg2 harg2 arg3 harg3 arg4 harg4 arg5 harg5 arg6 harg6 arg7 harg7 arg8 harg8 arg9 harg9 arg10 harg10 arg11 harg11 X_arg7 X_arg8 X_arg9 X_arg10 _).append ih.2⟩

end Trips

end Cert.KernelIdeal.Gen
end
end
-- ==== Proof.Setup.lean ====
module
public import proofs.«01_k».proof.Proof.Step
@[expose] public section
set_option maxRecDepth 16384
noncomputable section
namespace Cert.Proof
open Idealize.ShloMosaic

/-- The first weight packed into field `r`. -/
def first (r : ℕ) : ℕ := 8 * (r % 16) + 4 * (r / 16)

/-- The packing rows: field `r` weighs four consecutive codes by powers of sixteen. -/
def packW (r : Fin 32) (j : Fin 128) : EReal :=
  if first r.val ≤ j.val ∧ j.val < first r.val + 4 then (((16 : ℝ) ^ (j.val - first r.val) : ℝ) : EReal) else 0

/-- A candidate scale, from the candidate's number and the largest weight of the row. -/
def scaleOf (k : ℕ) (a : EReal) : EReal :=
  if a = 0 then 1 else (1 - FloatOps.sitofp (F := Ideal) FTy.f32 (BitVec.ofNat 32 k) * ((1 / 40 : ℝ) : EReal)) * a * ((1 / 7 : ℝ) : EReal)

end Cert.Proof

namespace Cert.KernelIdeal.Gen
open Cert.KernelIdeal Cert.Proof Idealize.ShloMosaic Idealize.ShloMosaic.TcCoe Idealize.SL.Sem

/-- The scaled weight `i` of the output row `l`. -/
def wsOf (x1 : Vec Ideal S1024x128 .bf16) (x2 : Vec Ideal S1x1x128 .f32) (i : Fin 128) (l : Fin 1024) : EReal :=
  x1 (ix2 l i) * x2 (ix3 0 0 i)

/-- The Gram-weighted scaled weight `i` of the output row `l`. -/
def wgOf (x0 : Vec Ideal S1x128x128 .f32) (x1 : Vec Ideal S1024x128 .bf16) (x2 : Vec Ideal S1x1x128 .f32) (i : Fin 128)
    (l : Fin 1024) : EReal :=
  ∑ x : Fin 128, x0 (ix3 0 i x) * wsOf x1 x2 x l

/-- The largest scaled weight of the output row `l`. -/
def amaxOf (x1 : Vec Ideal S1024x128 .bf16) (x2 : Vec Ideal S1x1x128 .f32) (l : Fin 1024) : EReal :=
  Finset.fold max (Ideal.ofBits FTy.f32 4286578688#32) (fun x => FloatOps.absf (F := Ideal) (φ := .f32) (wsOf x1 x2 x l)) Finset.univ

/-- The left operand of a step's product: the three limbs of the Gram matrix and the packing rows. -/
def lhsOf (x0 : Vec Ideal S1x128x128 .f32) (a : Fin 288) (b : Fin 256) : EReal :=
  if ha : a.val < 128 then
    if hb : b.val < 128 then x0 (ix3 0 ⟨a.val, ha⟩ ⟨b.val, hb⟩)
    else x0 (ix3 0 ⟨a.val, ha⟩ ⟨b.val - 128, by omega⟩) - x0 (ix3 0 ⟨a.val, ha⟩ ⟨b.val - 128, by omega⟩)
  else if hb : b.val < 128 then
    if ha' : a.val < 256 then
      x0 (ix3 0 ⟨a.val - 128, by omega⟩ ⟨b.val, hb⟩) - x0 (ix3 0 ⟨a.val - 128, by omega⟩ ⟨b.val, hb⟩)
        - (x0 (ix3 0 ⟨a.val - 128, by omega⟩ ⟨b.val, hb⟩) - x0 (ix3 0 ⟨a.val - 128, by omega⟩ ⟨b.val, hb⟩))
    else packW ⟨a.val - 256, by omega⟩ ⟨b.val, hb⟩
  else 0

variable (x0 : Vec Ideal S1x128x128 .f32) (x1 : Vec Ideal S1024x128 .bf16) (x2 : Vec Ideal S1x1x128 .f32)

/-- The scaled weights the second kernel stores, entry by entry. -/
theorem pay152_at (i : Fin 128) (l : Fin 1024) : k1_pay152 x1 x2 (ix2 i l) = wsOf x1 x2 i l := by
  pointwise [k1_pay152, k1_pay151]
  rfl

/-- The Gram-weighted scaled weights the second kernel stores, entry by entry. -/
theorem pay153_at (i : Fin 128) (l : Fin 1024) : k1_pay153 (k1_pay136 x0) x1 x2 (ix2 i l) = wgOf x0 x1 x2 i l := by
  pointwise [k1_pay153, k1_pay152, k1_pay151, k1_pay136]
  rfl

/-- The first named constant is 1/40. -/
theorem inv_forty : Named.named (F := Ideal) (φ := .f32) κ "inv_forty" 1020054733#32 = ((1 / 40 : ℝ) : EReal) :=
  IdealRules.named_const.ideal_named_scalar _ _ _ _ rfl

/-- The second named constant is 1/7. -/
theorem inv_seven : Named.named (F := Ideal) (φ := .f32) κ "inv_seven" 1041385765#32 = ((1 / 7 : ℝ) : EReal) :=
  IdealRules.named_const.ideal_named_scalar _ _ _ _ rfl

/-- The candidate scales of a step, entry by entry. -/
theorem pay1_at (i : Fin 24) (l : Fin 1024) :
    k1_pay1 (k1_pay154 x1 x2) (k1_pay155 (F := Ideal)) (k1_pay156 x1 x2) (ix2 i l) = scaleOf i.val (amaxOf x1 x2 l) := by
  pointwise [k1_pay1, k1_pay154, k1_pay155, k1_pay156, k1_pay152, k1_pay151]
  rw [inv_forty, inv_seven]
  rfl

/-- The reciprocal scales the second kernel stores, entry by entry. -/
theorem pay3_at (i : Fin 24) (l : Fin 1024) :
    k1_pay3 (k1_pay154 x1 x2) (k1_pay155 (F := Ideal)) (k1_pay156 x1 x2) (ix2 i l) = Ideal.div 1 (scaleOf i.val (amaxOf x1 x2 l)) := by
  have h := pay1_at x1 x2
  unfold k1_pay3
  generalize k1_pay1 (k1_pay154 x1 x2) (k1_pay155 (F := Ideal)) (k1_pay156 x1 x2) = W at h
  pointwise []
  rw [h]

/-- The scales the second kernel returns, entry by entry. -/
theorem pay2_at (i : Fin 20) (l : Fin 1024) :
    k1_pay2 (k1_pay154 x1 x2) (k1_pay155 (F := Ideal)) (k1_pay156 x1 x2) (ix4 i 0 0 l) = scaleOf i.val (amaxOf x1 x2 l) := by
  have h := pay1_at x1 x2
  unfold k1_pay2
  generalize k1_pay1 (k1_pay154 x1 x2) (k1_pay155 (F := Ideal)) (k1_pay156 x1 x2) = W at h
  pointwise []
  rw [h]

/-- The losses the second kernel returns, from the partial losses. -/
theorem pay5_at (i : Fin 20) (l : Fin 1024) (P : Vec Ideal S20x8x1024 .f32) :
    k1_pay5 (k1_pay154 x1 x2) (k1_pay155 (F := Ideal)) (k1_pay156 x1 x2) P (ix4 i 0 0 l)
      = (∑ s : Fin 8, P (ix3 i s l)) * scaleOf i.val (amaxOf x1 x2 l) * scaleOf i.val (amaxOf x1 x2 l) := by
  have h := pay1_at x1 x2
  unfold k1_pay5
  generalize k1_pay1 (k1_pay154 x1 x2) (k1_pay155 (F := Ideal)) (k1_pay156 x1 x2) = W at h
  pointwise []
  rw [h]

/-- The first limb of the Gram matrix is the matrix itself. -/
theorem pay140_at (i j : Fin 128) : k1_pay140 x0 (ix2 i j) = x0 (ix3 0 i j) := by
  pointwise [k1_pay140, k1_pay136, k1_pay137]

/-- The second limb of the Gram matrix is what the first leaves. -/
theorem pay141_at (i j : Fin 128) : k1_pay141 x0 (ix2 i j) = x0 (ix3 0 i j) - x0 (ix3 0 i j) := by
  pointwise [k1_pay141, k1_pay136, k1_pay137, k1_pay138, k1_pay139]

/-- The third limb of the Gram matrix is what the first two leave. -/
theorem pay142_at (i j : Fin 128) :
    k1_pay142 x0 (ix2 i j) = x0 (ix3 0 i j) - x0 (ix3 0 i j) - (x0 (ix3 0 i j) - x0 (ix3 0 i j)) := by
  pointwise [k1_pay142, k1_pay136, k1_pay137, k1_pay138, k1_pay139]

/-- The rest of the left operand is zero. -/
theorem pay150_at (i : Fin 160) (j : Fin 128) : k1_pay150 (F := Ideal) (ix2 i j) = 0 := by
  pointwise [k1_pay150]

end Cert.KernelIdeal.Gen
end
end
-- ==== Proof.PackInt.lean ====
module
public import proofs.«01_k».proof.Proof.Setup
@[expose] public section
set_option maxRecDepth 16384
noncomputable section
namespace Cert.KernelIdeal.Gen
open Cert.KernelIdeal Cert.Proof Idealize.ShloMosaic Idealize.ShloMosaic.TcCoe Idealize.SL.Sem

/-- The packing rows' column less the first packed column, as a word. -/
theorem pay145_at : ∀ (i : Fin 32) (l : Fin 128),
    k1_pay145 kernelRun1_A.sl.v18 kernelRun1_A.sl.v19 k1_pay143 (16#32) k1_pay144 (ix2 i l)
      = BitVec.ofInt 32 ((l.val : ℤ) - first i.val) := by
  decide +kernel

/-- The comparisons the packing rows are chosen by, at a difference of columns. -/
theorem pack_bits : ∀ n : Fin 256,
    IntOp.andi (IntOp.cmpi .sge (BitVec.ofInt 32 ((n.val : ℤ) - 128)) 0#32) (IntOp.cmpi .slt (BitVec.ofInt 32 ((n.val : ℤ) - 128)) 4#32)
        = (if 128 ≤ n.val ∧ n.val < 132 then 1#1 else 0#1) ∧
      IntOp.cmpi .eq (BitVec.ofInt 32 ((n.val : ℤ) - 128)) 0#32 = (if n.val = 128 then 1#1 else 0#1) ∧
      IntOp.cmpi .eq (BitVec.ofInt 32 ((n.val : ℤ) - 128)) 1#32 = (if n.val = 129 then 1#1 else 0#1) ∧
      IntOp.cmpi .eq (BitVec.ofInt 32 ((n.val : ℤ) - 128)) 2#32 = (if n.val = 130 then 1#1 else 0#1) := by
  decide +kernel

end Cert.KernelIdeal.Gen
end
end
-- ==== Proof.Consts.lean ====
module
public import Idealize.ShloMosaic.Lib.Pointwise
@[expose] public section
noncomputable section
namespace Cert.Proof
open Idealize.ShloMosaic

/-! # The float literals of the two programs, as reals -/

/-- The lower clip bound is minus seven. -/
theorem lit_neg7 : Ideal.ofBits FTy.f32 3235905536#32 = ((-7 : ℝ) : EReal) := by
  simp [Ideal.ofBits, Ideal.ieee, -EReal.coe_mul, -EReal.coe_neg]; norm_num

/-- The upper clip bound is seven. -/
theorem lit_7 : Ideal.ofBits FTy.f32 1088421888#32 = ((7 : ℝ) : EReal) := by
  simp [Ideal.ofBits, Ideal.ieee, -EReal.coe_mul]; norm_num

/-- The second packing weight is sixteen. -/
theorem lit_16 : Ideal.ofBits FTy.f32 1098907648#32 = ((16 : ℝ) : EReal) := by
  simp [Ideal.ofBits, Ideal.ieee, -EReal.coe_mul]; norm_num

/-- The third packing weight is 256. -/
theorem lit_256 : Ideal.ofBits FTy.f32 1132462080#32 = ((256 : ℝ) : EReal) := by
  simp [Ideal.ofBits, Ideal.ieee, -EReal.coe_mul]; norm_num

/-- The fourth packing weight is 4096. -/
theorem lit_4096 : Ideal.ofBits FTy.f32 1166016512#32 = ((4096 : ℝ) : EReal) := by
  simp [Ideal.ofBits, Ideal.ieee, -EReal.coe_mul]; norm_num

/-- The constant added to a packed sum is 2^23 + 0x8888. -/
theorem lit_magic : Ideal.ofBits FTy.f32 1258326152#32 = ((8423560 : ℝ) : EReal) := by
  simp [Ideal.ofBits, Ideal.ieee, -EReal.coe_mul]

/-- The start of the maximum is minus infinity. -/
theorem lit_bot : Ideal.ofBits FTy.f32 4286578688#32 = (⊥ : EReal) := by
  simp [Ideal.ofBits, Ideal.ieee]

/-- The single-precision bound of the precondition is infinity. -/
theorem lit_top : Ideal.ofBits FTy.f32 2139095040#32 = (⊤ : EReal) := by
  simp [Ideal.ofBits, Ideal.ieee]

/-- The half-width bound of the precondition is infinity. -/
theorem lit_top_bf16 : Ideal.ofBits FTy.bf16 32640#16 = (⊤ : EReal) := by
  simp [Ideal.ofBits, Ideal.ieee]

/-- The divisor of the clip ratios is forty. -/
theorem lit_40 : Ideal.ofBits FTy.f32 1109393408#32 = ((40 : ℝ) : EReal) := by
  simp [Ideal.ofBits, Ideal.ieee, -EReal.coe_mul]; norm_num

end Cert.Proof
end
end
-- ==== Proof.Pack.lean ====
module
public import proofs.«01_k».proof.Proof.PackInt
public import proofs.«01_k».proof.Proof.Consts
@[expose] public section
set_option maxRecDepth 16384
noncomputable section
namespace Cert.KernelIdeal.Gen
open Cert.KernelIdeal Cert.Proof Idealize.ShloMosaic Idealize.ShloMosaic.TcCoe Idealize.SL.Sem

/-- The packing rows the kernel builds from its iotas are the powers of sixteen. -/
theorem pay149_at (i : Fin 32) (l : Fin 128) :
    k1_pay149 (F := Ideal) kernelRun1_A.sl.r_1 kernelRun1_A.sl.r_2 kernelRun1_A.sl.r_3 (ix2 i l) = packW i l := by
  have h := pay145_at i l
  pointwise [k1_pay149, kernelRun1_A.sl.r_1, kernelRun1_A.sl.r_2, kernelRun1_A.sl.r_3]
  unfold k1_pay146 k1_pay147 k1_pay148
  generalize k1_pay145 kernelRun1_A.sl.v18 kernelRun1_A.sl.v19 k1_pay143 (16#32) k1_pay144 = W at h
  pointwise []
  rw [h]
  have hb := pack_bits ⟨l.val + 128 - first i.val, by unfold first; omega⟩
  have hf : first i.val ≤ 128 := by unfold first; omega
  rw [show (((l.val + 128 - first i.val : ℕ) : ℤ) - 128) = (l.val : ℤ) - first i.val by omega] at hb
  obtain ⟨b0, b1, b2, b3⟩ := hb
  rw [b0, b1, b2, b3, lit_16, lit_256, lit_4096]
  unfold packW
  by_cases hc : first i.val ≤ l.val ∧ l.val < first i.val + 4
  · rw [if_pos hc, if_pos (by constructor <;> dsimp only <;> omega)]
    obtain ⟨d, hd⟩ : ∃ d, l.val = first i.val + d := ⟨l.val - first i.val, by omega⟩
    have hd4 : d < 4 := by omega
    simp only [hd, Nat.add_sub_cancel_left, show first i.val + d + 128 - first i.val = 128 + d by omega]
    interval_cases d <;> simp [Scalar.select, ← EReal.coe_pow] <;> norm_num
  · rw [if_neg hc, if_neg (by dsimp only; omega)]
    simp [Scalar.select]

end Cert.KernelIdeal.Gen
end
end
-- ==== Proof.Lhs.lean ====
module
public import proofs.«01_k».proof.Proof.Trips
public import proofs.«01_k».proof.Proof.Pack
@[expose] public section
set_option maxRecDepth 16384
noncomputable section
namespace Cert.KernelIdeal.Gen
open Cert.KernelIdeal Cert.Proof Idealize.ShloMosaic Idealize.ShloMosaic.TcCoe Idealize.SL.Sem

/-- Some piece of the list covers the index. -/
def Covers {s : Shape} {e : EltTy} (y : s.Idx) (L : List (View.Piece (Elt Ideal) s e)) : Prop := ∃ p ∈ L, y ∈ p.1.set

/-- The first piece of a list covers what it covers. -/
theorem Covers.here {s : Shape} {e : EltTy} {y : s.Idx} {R : Rect s} {w : R.shape.Idx → Elt Ideal e}
    {L : List (View.Piece (Elt Ideal) s e)} (h : y ∈ R.set) : Covers y (⟨R, w⟩ :: L) := ⟨_, List.mem_cons_self, h⟩

/-- A longer list of pieces covers no less. -/
theorem Covers.there {s : Shape} {e : EltTy} {y : s.Idx} {p : View.Piece (Elt Ideal) s e}
    {L : List (View.Piece (Elt Ideal) s e)} : Covers y L → Covers y (p :: L) :=
  fun ⟨q, hq, hy⟩ => ⟨q, List.mem_cons_of_mem _ hq, hy⟩

/-- What a list of pieces that cover an index and hold `G` leaves there. -/
theorem PiecesOf.canon {s : Shape} {e : EltTy} {G : s.Idx → Elt Ideal e} {L : List (View.Piece (Elt Ideal) s e)}
    (h : PiecesOf G L) (y : s.Idx) (hc : ∃ p ∈ L, y ∈ p.1.set) : View.canon L y = G y := by
  induction L with
  | nil => obtain ⟨_, hm, _⟩ := hc; exact absurd hm List.not_mem_nil
  | cons p L ih =>
    by_cases hy : y ∈ p.1.set
    · obtain ⟨r, w⟩ := p
      obtain ⟨x, rfl⟩ : ∃ x, r.emb x = y := r.exists_idx_of_mem hy
      rw [View.canon_cons_emb]
      exact h ⟨r, w⟩ List.mem_cons_self x
    · rw [View.canon_cons_of_not_mem p L hy]
      refine ih (fun pc hpc => h pc (List.mem_cons_of_mem _ hpc)) ?_
      obtain ⟨p', hm, hy'⟩ := hc
      rcases List.mem_cons.mp hm with rfl | hm
      · exact absurd hy' hy
      · exact ⟨p', hm, hy'⟩

/-- The pieces stored into the step's left operand. -/
abbrev lhsL (x0 : Vec Ideal S1x128x128 .f32) : List (View.Piece (Elt Ideal) S288x256 .bf16) :=
      [⟨Rect.unit (s := S288x256) ![128, 128] S160x128.size inb_S288x256_S160x128_128_128, k1_pay150 (F := Ideal)⟩,
       ⟨Rect.unit (s := S288x256) ![256, 0] S32x128.size inb_S288x256_S32x128_256_0, k1_pay149 (F := Ideal) kernelRun1_A.sl.r_1 kernelRun1_A.sl.r_2 kernelRun1_A.sl.r_3⟩,
       ⟨Rect.unit (s := S288x256) ![128, 0] S128x128.size inb_S288x256_S128x128_128_0, k1_pay142 (F := Ideal) x0⟩,
       ⟨Rect.unit (s := S288x256) ![0, 128] S128x128.size inb_S288x256_S128x128_0_128, k1_pay141 (F := Ideal) x0⟩,
       ⟨Rect.unit (s := S288x256) ![0, 0] S128x128.size inb_S288x256_S128x128_0_0, k1_pay140 (F := Ideal) x0⟩]

/-- The pieces stored into the step's left operand hold its three limbs and its packing rows. -/
theorem lhs_pieces (x0 : Vec Ideal S1x128x128 .f32) :
    PiecesOf (e := .bf16) (fun y : S288x256.Idx => lhsOf x0 (y 0) (y 1))
      (lhsL x0) := by
  have e {p q m n : ℕ} (inb : ∀ c, (![p, q] : Fin 2 → ℕ) c + (⟨2, ![m, n]⟩ : Shape).size c ≤ S288x256.size c)
      (G : Fin 288 → Fin 256 → EReal) (w : (⟨2, ![m, n]⟩ : Shape).Idx → EReal)
      (h : ∀ (i : Fin m) (j : Fin n), ∀ (hi : p + i.val < 288) (hj : q + j.val < 256),
        w (ix2 i j) = G ⟨p + i.val, hi⟩ ⟨q + j.val, hj⟩) (j : (⟨2, ![m, n]⟩ : Shape).Idx) :
      w j = (fun y : S288x256.Idx => G (y 0) (y 1)) ((Rect.unit (s := S288x256) ![p, q] (⟨2, ![m, n]⟩ : Shape).size inb).emb j) := by
    have h0 : p + m ≤ 288 := inb 0
    have h1 : q + n ≤ 256 := inb 1
    obtain ⟨a, b, rfl⟩ : ∃ a b, j = ix2 a b := ⟨j 0, j 1, by idx_ext⟩
    rw [h a b (by omega) (by omega)]
    beta_reduce
    congr 1
    · exact Fin.ext (ValueKit.rect_emb_unit_val (s := S288x256) ![p, q] (⟨2, ![m, n]⟩ : Shape).size inb (ix2 a b) 0).symm
    · exact Fin.ext (ValueKit.rect_emb_unit_val (s := S288x256) ![p, q] (⟨2, ![m, n]⟩ : Shape).size inb (ix2 a b) 1).symm
  refine PiecesOf.cons (e _ _ _ fun i j hi hj => ?_) <| PiecesOf.cons (e _ _ _ fun i j hi hj => ?_) <|
    PiecesOf.cons (e _ _ _ fun i j hi hj => ?_) <| PiecesOf.cons (e _ _ _ fun i j hi hj => ?_) <|
    PiecesOf.cons (e _ _ _ fun i j hi hj => ?_) <| PiecesOf.nil _
  · rw [pay150_at]
    unfold lhsOf
    rw [dif_neg (by dsimp only; omega), dif_neg (by dsimp only; omega)]
  · rw [pay149_at]
    unfold lhsOf
    rw [dif_neg (by dsimp only; omega), dif_pos (by dsimp only; omega), dif_neg (by dsimp only; omega)]
    congr 1 <;> exact Fin.ext (by dsimp only; omega)
  · rw [pay142_at]
    unfold lhsOf
    rw [dif_neg (by dsimp only; omega), dif_pos (by dsimp only; omega), dif_pos (by dsimp only; omega)]
    simp only [Nat.add_sub_cancel_left, Nat.zero_add, Fin.eta]
  · rw [pay141_at]
    unfold lhsOf
    rw [dif_pos (by dsimp only; omega), dif_neg (by dsimp only; omega)]
    simp only [Nat.add_sub_cancel_left, Nat.zero_add, Fin.eta]
  · rw [pay140_at]
    unfold lhsOf
    rw [dif_pos (by dsimp only; omega), dif_pos (by dsimp only; omega)]
    simp only [Nat.zero_add, Fin.eta]

/-- A load of a whole view filled by those pieces. -/
theorem lhs_canon (x0 : Vec Ideal S1x128x128 .f32) :
    View.canon (lhsL x0)
      = fun y : S288x256.Idx => lhsOf x0 (y 0) (y 1) := by
  funext y
  refine PiecesOf.canon (lhs_pieces x0) y ?_
  show Covers y _
  obtain ⟨a, b, rfl⟩ : ∃ a b, y = ix2 a b := ⟨y 0, y 1, by idx_ext⟩
  have m {p q m n : ℕ} (inb : ∀ c, (![p, q] : Fin 2 → ℕ) c + (⟨2, ![m, n]⟩ : Shape).size c ≤ S288x256.size c)
      (h : p ≤ a.val ∧ a.val < p + m ∧ q ≤ b.val ∧ b.val < q + n) :
      (ix2 a b : S288x256.Idx) ∈ (Rect.unit (s := S288x256) ![p, q] (⟨2, ![m, n]⟩ : Shape).size inb).set := by
    refine Rect.mem_set_unit.2 fun c => ?_
    match c with
    | ⟨0, _⟩ => exact ⟨h.1, h.2.1⟩
    | ⟨1, _⟩ => exact ⟨h.2.2.1, h.2.2.2⟩
  by_cases hb : b.val < 128
  · by_cases ha : a.val < 256
    · by_cases ha' : a.val < 128
      · exact .there <| .there <| .there <| .there <| .here (m _ (by omega))
      · exact .there <| .there <| .here (m _ (by omega))
    · exact .there <| .here (m _ (by omega))
  · by_cases ha : a.val < 128
    · exact .there <| .there <| .there <| .here (m _ (by omega))
    · exact .here (m _ (by omega))

end Cert.KernelIdeal.Gen
end
end
-- ==== Proof.Out.lean ====
module
public import proofs.«01_k».proof.Proof.Lhs
@[expose] public section
set_option maxRecDepth 16384
noncomputable section
namespace Cert.KernelIdeal.Gen
open Cert.KernelIdeal Cert.Proof Idealize.ShloMosaic Idealize.ShloMosaic.TcCoe Idealize.SL.Sem

variable (c : Dev nD) (i : grid1.Coords) (arg1 : Memref sig .tc .vmem S1x128x128 .f32) (harg1 : arg1.IsWhole) (arg2 : Memref sig .tc .vmem S1024x128 .bf16) (harg2 : arg2.IsWhole) (arg3 : Memref sig .tc .vmem S1x1x128 .f32) (harg3 : arg3.IsWhole) (arg4 : Memref sig .tc .vmem S20x1x1x1024 .f32) (harg4 : arg4.IsWhole) (arg5 : Memref sig .tc .vmem S1x20x64x1024 .i8) (harg5 : arg5.IsWhole) (arg6 : Memref sig .tc .vmem S20x1x1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S288x256 .bf16) (harg9 : arg9.IsWhole) (arg10 : Memref sig .tc .vmem S24x1024 .f32) (harg10 : arg10.IsWhole) (arg11 : Memref sig .tc .vmem S20x8x1024 .f32) (harg11 : arg11.IsWhole)
  (x0 : Vec Ideal S1x128x128 .f32) (x1 : Vec Ideal S1024x128 .bf16) (x2 : Vec Ideal S1x1x128 .f32)

/-- After the step's set-up, the first scratch array holds the scaled weights. -/
theorem rd7 : arg7.view.read (Elt Ideal) (arg7.view.writes (Elt Ideal) arg7.view.junk
    (kernelRun1_A.sl.HS0_1 (F := Ideal) c arg2 harg2 arg3 harg3 x1 x2)) = k1_pay152 x1 x2 := by
  unfold kernelRun1_A.sl.HS0_1
  rw [View.readAt_full, View.readAt_full, harg2.read_unread, harg3.read_unread]
  exact View.read_writes_full _ _ _ _ _

/-- After the step's set-up, the second scratch array holds the Gram-weighted scaled weights. -/
theorem rd8 : arg8.view.read (Elt Ideal) (arg8.view.writes (Elt Ideal) arg8.view.junk
    (kernelRun1_A.sl.HS1_1 (F := Ideal) c arg1 harg1 arg2 harg2 arg3 harg3 x0 x1 x2)) = k1_pay153 (k1_pay136 x0) x1 x2 := by
  unfold kernelRun1_A.sl.HS1_1 kernelRun1_A.sl.r
  rw [View.readAt_full, View.readAt_full, View.readAt_full, harg1.read_unread, harg2.read_unread, harg3.read_unread]
  exact View.read_writes_full _ _ _ _ _

/-- After the step's set-up, the third scratch array holds the left operand of the products. -/
theorem rd9 : arg9.view.read (Elt Ideal) (arg9.view.writes (Elt Ideal) arg9.view.junk
    (kernelRun1_A.sl.HS2_5 (F := Ideal) c arg1 harg1 x0)) = fun y : S288x256.Idx => lhsOf x0 (y 0) (y 1) := by
  unfold kernelRun1_A.sl.HS2_5
  rw [View.readAt_full, harg1.read_unread, View.read_writes_junk_eq_canon]
  exact lhs_canon x0

/-- After the step's set-up, the fourth scratch array holds the reciprocal scales. -/
theorem rd10 : arg10.view.read (Elt Ideal) (arg10.view.writes (Elt Ideal) arg10.view.junk
    (kernelRun1_A.sl.HS3_1 (F := Ideal) c arg2 harg2 arg3 harg3 x1 x2))
      = k1_pay3 (k1_pay154 x1 x2) (k1_pay155 (F := Ideal)) (k1_pay156 x1 x2) := by
  unfold kernelRun1_A.sl.HS3_1 kernelRun1_A.sl.r_4 kernelRun1_A.sl.r_5
  rw [View.readAt_full, View.readAt_full, harg2.read_unread, harg3.read_unread]
  exact View.read_writes_full _ _ _ _ _

/-- A column of the scaled weights. -/
theorem col7 (l : Fin 1024) : (fun i : Fin 128 => k1_pay152 x1 x2 (ix2 i l)) = fun i => wsOf x1 x2 i l :=
  funext fun i => pay152_at x1 x2 i l

/-- A column of the Gram-weighted scaled weights. -/
theorem col8 (l : Fin 1024) : (fun i : Fin 128 => k1_pay153 (k1_pay136 x0) x1 x2 (ix2 i l)) = fun i => wgOf x0 x1 x2 i l :=
  funext fun i => pay153_at x0 x1 x2 i l

/-- The scales a grid point of the second kernel leaves. -/
theorem out5_at (k : Fin 20) (l : Fin 1024) :
    out1_A_5 (F := Ideal) c i arg1 harg1 arg2 harg2 arg3 harg3 arg4 harg4 arg5 harg5 arg6 harg6 arg7 harg7 arg8 harg8 arg9 harg9 arg10 harg10 arg11 harg11 x0 x1 x2 (ix4 k 0 0 l) = scaleOf k.val (amaxOf x1 x2 l) := by
  unfold out1_A_5 kernelRun1_A
  dsimp only
  unfold kernelRun1_A.sl.H5_1 kernelRun1_A.sl.r_4 kernelRun1_A.sl.r_5
  rw [View.readAt_full, View.readAt_full, harg2.read_unread, harg3.read_unread]
  rw [← pay2_at x1 x2 k l]
  exact congrFun (View.read_writes_full _ _ _ _ _) _

/-- The bytes a grid point of the second kernel leaves. -/
theorem out4_at (k : Fin 20) (q : Fin 64) (l : Fin 1024) :
    out1_A_4 (F := Ideal) c i arg1 harg1 arg2 harg2 arg3 harg3 arg4 harg4 arg5 harg5 arg6 harg6 arg7 harg7 arg8 harg8 arg9 harg9 arg10 harg10 arg11 harg11 x0 x1 x2 (ix4 0 k q l)
      = colByte (fun i => wsOf x1 x2 i l) (Ideal.div 1 (scaleOf k.val (amaxOf x1 x2 l))) (lhsOf x0) q := by
  unfold out1_A_4
  rw [View.read_writes_junk_eq_canon]
  have hc := cover1_A_4 (F := Ideal) c i arg1 harg1 arg2 harg2 arg3 harg3 arg4 harg4 arg5 harg5 arg6 harg6 arg7 harg7 arg8 harg8 arg9 harg9 arg10 harg10 arg11 harg11 x0 x1 x2 (ix4 0 k q l)
  unfold kernelRun1_A at hc ⊢
  dsimp only at hc ⊢
  rw [PiecesOf.canon (pb_pieces _ _ _ _ arg1 harg1 arg2 harg2 arg3 harg3 arg4 harg4 arg5 harg5 arg6 harg6 arg7 harg7 arg8 harg8 arg9 harg9 arg10 harg10 arg11 harg11 _ _ _ _ _ le_rfl).1 _ hc]
  rw [rd7, rd9, rd10]
  show byteOf _ _ _ k q l = _
  unfold byteOf
  rw [col7, pay3_at]
  rfl

/-- The partial losses the loop's trips store cover their array. -/
theorem part_cover (X7 : BufTy.Contents (Elt Ideal) arg7.view.ty) (X8 : BufTy.Contents (Elt Ideal) arg8.view.ty)
    (X9 : BufTy.Contents (Elt Ideal) arg9.view.ty) (X10 : BufTy.Contents (Elt Ideal) arg10.view.ty) (y : S20x8x1024.Idx) :
    ∃ p ∈ (pb_k1_t1 (F := Ideal) Variants.none c none i arg1 harg1 arg2 harg2 arg3 harg3 arg4 harg4 arg5 harg5 arg6 harg6 arg7 harg7 arg8 harg8 arg9 harg9 arg10 harg10 arg11 harg11 X7 X8 X9 X10 k1_t1_loop.trips).2, y ∈ p.1.set :=
  View.cover_of_tiledL (pb_k1_t1 (F := Ideal) Variants.none c none i arg1 harg1 arg2 harg2 arg3 harg3 arg4 harg4 arg5 harg5 arg6 harg6 arg7 harg7 arg8 harg8 arg9 harg9 arg10 harg10 arg11 harg11 X7 X8 X9 X10 k1_t1_loop.trips).2
    S1x8x256.size (by sl_kernel_rfl) y

/-- The losses a grid point of the second kernel leaves. -/
theorem out3_at (k : Fin 20) (l : Fin 1024) :
    out1_A_3 (F := Ideal) c i arg1 harg1 arg2 harg2 arg3 harg3 arg4 harg4 arg5 harg5 arg6 harg6 arg7 harg7 arg8 harg8 arg9 harg9 arg10 harg10 arg11 harg11 x0 x1 x2 (ix4 k 0 0 l)
      = (∑ s : Fin 8, colPart (fun i => wsOf x1 x2 i l) (fun i => wgOf x0 x1 x2 i l)
            (Ideal.div 1 (scaleOf k.val (amaxOf x1 x2 l))) (lhsOf x0) s)
          * scaleOf k.val (amaxOf x1 x2 l) * scaleOf k.val (amaxOf x1 x2 l) := by
  unfold out1_A_3 kernelRun1_A
  dsimp only
  unfold kernelRun1_A.sl.r_4 kernelRun1_A.sl.r_5
  rw [View.readAt_full, View.readAt_full, harg2.read_unread, harg3.read_unread]
  refine (congrFun (View.read_writes_full _ _ _ _ _) _).trans ?_
  rw [pay5_at]
  refine congrArg (fun S => S * scaleOf k.val (amaxOf x1 x2 l) * scaleOf k.val (amaxOf x1 x2 l)) (Finset.sum_congr rfl fun s _ => ?_)
  rw [View.readCov_eq_canon']
  beta_reduce
  rw [PiecesOf.canon (pb_pieces _ _ _ _ arg1 harg1 arg2 harg2 arg3 harg3 arg4 harg4 arg5 harg5 arg6 harg6 arg7 harg7 arg8 harg8 arg9 harg9 arg10 harg10 arg11 harg11 _ _ _ _ _ le_rfl).2 _ (part_cover c i arg1 harg1 arg2 harg2 arg3 harg3 arg4 harg4 arg5 harg5 arg6 harg6 arg7 harg7 arg8 harg8 arg9 harg9 arg10 harg10 arg11 harg11 _ _ _ _ _)]
  rw [rd7, rd8, rd9, rd10]
  have e : (Rect.unit (s := S20x8x1024) ![0, 0, 0] ![20, 8, 1024] inb_S20x8x1024_S20x8x1024_0_0_0).toLoadRect.idx (ix3 k s l) = ix3 k s l :=
    Rect.emb_unit_full (s := S20x8x1024) _ _
  rw [e]
  show partOf _ _ _ _ k s l = _
  unfold partOf
  rw [col7, col8, pay3_at]
  rfl

end Cert.KernelIdeal.Gen
end
end
-- ==== Proof.Gram.lean ====
module
public import proofs.«01_k».proof.Proof.Lhs
public import Idealize.ShloMosaic.Lib.Pipeline.ValueKit
@[expose] public section
set_option maxRecDepth 16384
noncomputable section
namespace Cert.KernelIdeal.Gen
open Cert.KernelIdeal Cert.Proof Idealize.ShloMosaic Idealize.ShloMosaic.TcCoe Idealize.SL.Sem
open Idealize.ShloMosaic.Pipeline (Dat)

/-- A column number of the wide arrays: place `i` of group `g`. -/
abbrev wide (g : Fin 32) (i : Fin 128) : Fin 4096 := ⟨128 * g.val + i.val, by omega⟩

/-- The Gram matrix of group `g` over the tokens, divided by the channel scales of its row and its column. -/
def gramOf (A0 : FVec Ideal S6144x4096 .bf16) (A1 : FVec Ideal S1x4096 .f32) (g : Fin 32) (i j : Fin 128) : EReal :=
  Ideal.div (Ideal.div (∑ n : Fin 6144, A0 (ix2 n (wide g j)) * A0 (ix2 n (wide g i))) (A1 (ix2 0 (wide g i)))) (A1 (ix2 0 (wide g j)))

/-- What the first kernel stores for the first group of a step, entry by entry. -/
theorem gpay2_at (x0 : FVec Ideal S6144x256 .bf16) (x1 : FVec Ideal S1x128 .f32) (i j : Fin 128) :
    k0_pay2 (F := Ideal) x0 x1 (ix3 0 i j) = Ideal.div (Ideal.div (∑ t : Fin 6144,
      x0 (ix2 t ⟨j.val, by omega⟩) * x0 (ix2 t ⟨i.val, by omega⟩)) (x1 (ix2 0 i))) (x1 (ix2 0 j)) := by
  pointwise [k0_pay2, k0_pay1]

/-- What the first kernel stores for the second group of a step, entry by entry. -/
theorem gpay3_at (x0 : FVec Ideal S6144x256 .bf16) (x1 : FVec Ideal S1x128 .f32) (i j : Fin 128) :
    k0_pay3 (F := Ideal) x0 x1 (ix3 0 i j) = Ideal.div (Ideal.div (∑ t : Fin 6144,
      x0 (ix2 t ⟨128 + j.val, by omega⟩) * x0 (ix2 t ⟨128 + i.val, by omega⟩)) (x1 (ix2 0 i))) (x1 (ix2 0 j)) := by
  pointwise [k0_pay3, k0_pay1]

/-- The block number of every window of the first call, at every grid point. -/
theorem idx0 : ∀ t : Fin cfg0.N, win0_0.index t = ![0, t.val] ∧ win0_1.index t = ![0, t.val] ∧ win0_2.index t = ![t.val, 0, 0] :=
  (by decide +kernel : ∀ t : Fin grid0.N, _)

variable (V : (c : Dev nD) → (b : Ref sig .tc) → Buf (Elt Ideal) ((c : Thread nD τ).loc b))

/-- What a point of the first call leaves in its block: one matrix per group of the block. -/
def gramBlk (x0 : FVec Ideal S6144x256 .bf16) (x1 : FVec Ideal S1x256 .f32) (h : Fin 2) (i j : Fin 128) : EReal :=
  Ideal.div (Ideal.div (∑ n : Fin 6144,
      x0 (ix2 n ⟨128 * h.val + j.val, by omega⟩) * x0 (ix2 n ⟨128 * h.val + i.val, by omega⟩))
        (x1 (ix2 0 ⟨128 * h.val + i.val, by omega⟩))) (x1 (ix2 0 ⟨128 * h.val + j.val, by omega⟩))

/-- The block a grid point of the first kernel leaves, entry by entry. -/
theorem out0_at (x0 : FVec Ideal S6144x256 .bf16) (x1 : FVec Ideal S1x256 .f32) (h : Fin 2) (i j : Fin 128) :
    out0_2 (F := Ideal) x0 x1 (ix3 h i j) = gramBlk x0 x1 h i j := by
  unfold out0_2
  refine (PiecesOf.canon (e := .f32) (G := fun y : S2x128x128.Idx => gramBlk x0 x1 (y 0) (y 1) (y 2)) (.cons ?_ (.cons ?_ (.nil _))) _ (cover0_2 _ _ _)).trans rfl
  · intro y
    obtain ⟨a, b, d, rfl⟩ : ∃ a b d, y = ix3 a b d := ⟨y 0, y 1, y 2, by idx_ext⟩
    obtain rfl : a = 0 := Subsingleton.elim _ _
    refine (gpay3_at _ _ b d).trans ?_
    rw [show (r0_4.emb (ix3 0 b d) : S2x128x128.Idx) = ix3 1 b d by idx_ext]
    have hx (t : Fin 6144) (k : Fin 256) : View.ld (Val := Elt Ideal) (e' := .bf16) x0 r0_0 (ix2 t k) = x0 (ix2 t k) := congrArg x0 (a₂ := ix2 t k) (by idx_ext)
    have hs (k : Fin 128) : View.ld (Val := Elt Ideal) (e' := .f32) x1 r0_3 (ix2 0 k) = x1 (ix2 0 ⟨128 * (1 : Fin 2).val + k.val, by omega⟩) := congrArg x1 (by idx_ext)
    simp only [hs, hx]
    rfl
  · intro y
    obtain ⟨a, b, d, rfl⟩ : ∃ a b d, y = ix3 a b d := ⟨y 0, y 1, y 2, by idx_ext⟩
    obtain rfl : a = 0 := Subsingleton.elim _ _
    refine (gpay2_at _ _ b d).trans ?_
    rw [show (r0_2.emb (ix3 0 b d) : S2x128x128.Idx) = ix3 0 b d by idx_ext]
    have hx (t : Fin 6144) (k l : Fin 256) (e : k = l) : View.ld (Val := Elt Ideal) (e' := .bf16) x0 r0_0 (ix2 t k) = x0 (ix2 t l) := congrArg x0 (a₂ := ix2 t l) (by subst e; idx_ext)
    have hs (k : Fin 128) : View.ld (Val := Elt Ideal) (e' := .f32) x1 r0_1 (ix2 0 k) = x1 (ix2 0 ⟨128 * (0 : Fin 2).val + k.val, by omega⟩) := congrArg x1 (by idx_ext)
    simp only [hs]
    unfold gramBlk
    simp only [fun t => hx t ⟨b.val, by omega⟩ ⟨128 * (0 : Fin 2).val + b.val, by omega⟩ (by simp),
      fun t => hx t ⟨d.val, by omega⟩ ⟨128 * (0 : Fin 2).val + d.val, by omega⟩ (by simp)]
    rfl

/-- The array of Gram matrices the first kernel leaves. -/
theorem gram_array (c : Dev nD) : (dat0 V c).arrAt 2 cfg0.N = (fun y : S32x128x128.Idx => gramOf (V c main_v0) (V c main_v1) (y 0) (y 1) (y 2)) := by
  refine (dat0 V c).arrAt_eq_of_covers 2 _ (by decide +kernel) fun t _ y => ?_
  blk_simp
  rw [after0_2]
  obtain ⟨h, i, j, rfl⟩ : ∃ (h : Fin 2) (i j : Fin 128), y = ix3 h i j := ⟨y 0, y 1, y 2, by idx_ext⟩
  rw [out0_at]
  have h16 : t.val < 16 := t.isLt
  have hb : 2 * t.val + h.val < 32 := by omega
  have e0 : ((win0_2.blk t).view.emb (ix3 h i j) 0 : Fin 32) = ⟨2 * t.val + h.val, hb⟩ := Fin.ext (by blk_simp [idx0 t] <;> first | done | (show t.val * 2 + h.val = 2 * t.val + h.val; omega))
  have e1 : ((win0_2.blk t).view.emb (ix3 h i j) 1 : Fin 128) = i := Fin.ext (by blk_simp [idx0 t] <;> first | done | (show t.val * 2 + h.val = 2 * t.val + h.val; omega))
  have e2 : ((win0_2.blk t).view.emb (ix3 h i j) 2 : Fin 128) = j := Fin.ext (by blk_simp [idx0 t] <;> first | done | (show t.val * 2 + h.val = 2 * t.val + h.val; omega))
  refine Eq.trans ?_ (congr (congr (congrArg (gramOf (V c main_v0) (V c main_v1)) e0) e1) e2).symm
  unfold gramBlk gramOf
  blk_point [iblk0, idx0 t]
end Cert.KernelIdeal.Gen
end
end
-- ==== Proof.Arrays.lean ====
module
public import proofs.«01_k».proof.Proof.Out
public import proofs.«01_k».proof.Proof.Gram
@[expose] public section
set_option maxRecDepth 16384
noncomputable section
namespace Cert.KernelIdeal.Gen
open Cert.KernelIdeal Cert.Proof Idealize.ShloMosaic Idealize.ShloMosaic.TcCoe Idealize.SL.Sem
open Idealize.ShloMosaic.Pipeline (Dat)

/-- The Gram matrix of group `g`, as a grid point's block. -/
def blkG (A : FVec Ideal S32x128x128 .f32) (g : Fin 32) : FVec Ideal S1x128x128 .f32 := fun y => A (ix3 g (y 1) (y 2))

/-- The weights of group `g`, as a grid point's block. -/
def blkW (A : FVec Ideal S1024x4096 .bf16) (g : Fin 32) : FVec Ideal S1024x128 .bf16 := fun y => A (ix2 (y 0) (wide g (y 1)))

/-- The channel scales of group `g`, as a grid point's block. -/
def blkS (A : FVec Ideal S32x1x128 .f32) (g : Fin 32) : FVec Ideal S1x1x128 .f32 := fun y => A (ix3 g 0 (y 2))

/-- The candidate scale number `k` of a group at output row `l`, from the group's weights and channel scales. -/
def scaleAt (x1 : FVec Ideal S1024x128 .bf16) (x2 : FVec Ideal S1x1x128 .f32) (k : Fin 20) (l : Fin 1024) : EReal :=
  scaleOf k.val (amaxOf x1 x2 l)

/-- Byte `q` of the packed codes of a group at output row `l` under candidate scale `k`. -/
def codeAt (x0 : FVec Ideal S1x128x128 .f32) (x1 : FVec Ideal S1024x128 .bf16) (x2 : FVec Ideal S1x1x128 .f32) (k : Fin 20)
    (q : Fin 64) (l : Fin 1024) : BitVec 8 :=
  colByte (fun i => wsOf x1 x2 i l) (Ideal.div 1 (scaleAt x1 x2 k l)) (lhsOf x0) q

/-- The loss of a group at output row `l` under candidate scale `k`. -/
def lossAt (x0 : FVec Ideal S1x128x128 .f32) (x1 : FVec Ideal S1024x128 .bf16) (x2 : FVec Ideal S1x1x128 .f32) (k : Fin 20)
    (l : Fin 1024) : EReal :=
  (∑ s : Fin 8, colPart (fun i => wsOf x1 x2 i l) (fun i => wgOf x0 x1 x2 i l) (Ideal.div 1 (scaleAt x1 x2 k l)) (lhsOf x0) s)
    * scaleAt x1 x2 k l * scaleAt x1 x2 k l

/-- The block number of every window of the second call, at every grid point. -/
theorem idx1 : ∀ t : Fin cfg1.N, win1_0.index t = ![t.val, 0, 0] ∧ win1_1.index t = ![0, t.val] ∧ win1_2.index t = ![t.val, 0, 0]
   ∧ win1_3.index t = ![0, t.val, 0, 0] ∧ win1_4.index t = ![t.val, 0, 0, 0] ∧ win1_5.index t = ![0, t.val, 0, 0] :=
  (by decide +kernel : ∀ t : Fin grid1.N, _)

variable (V : (c : Dev nD) → (b : Ref sig .tc) → Buf (Elt Ideal) ((c : Thread nD τ).loc b))

/-- The Gram block a grid point of the second kernel reads. -/
theorem iblkG (c : Dev nD) (t : Fin cfg1.N) : iblk1 V c 0 t = blkG (V c main_v2) t := by
  funext y
  obtain ⟨h, i, j, rfl⟩ : ∃ (h : Fin 1) (i j : Fin 128), y = ix3 h i j := ⟨y 0, y 1, y 2, by idx_ext⟩
  unfold blkG
  blk_ext [iblk1, idx1 t]

/-- The weight block a grid point of the second kernel reads. -/
theorem iblkW (c : Dev nD) (t : Fin cfg1.N) : iblk1 V c 1 t = blkW (V c main_arg1) t := by
  funext y
  obtain ⟨i, j, rfl⟩ : ∃ (i : Fin 1024) (j : Fin 128), y = ix2 i j := ⟨y 0, y 1, by idx_ext⟩
  unfold blkW
  blk_ext [iblk1, idx1 t]
  show t.val * 128 + j.val = 128 * t.val + j.val
  omega

/-- The channel scales a grid point of the second kernel reads. -/
theorem iblkS (c : Dev nD) (t : Fin cfg1.N) : iblk1 V c 2 t = blkS (V c main_v3) t := by
  funext y
  obtain ⟨h, i, j, rfl⟩ : ∃ (h i : Fin 1) (j : Fin 128), y = ix3 h i j := ⟨y 0, y 1, y 2, by idx_ext⟩
  unfold blkS
  blk_ext [iblk1, idx1 t]

/-- The candidate scales, as an array. -/
def scaleArr (c : Dev nD) : S20x32x1x1024.Idx → EReal := fun y =>
  scaleAt (blkW (V c main_arg1) (y 1)) (blkS (V c main_v3) (y 1)) (y 0) (y 3)

/-- The packed codes, as an array. -/
def codeArr (c : Dev nD) : S32x20x64x1024.Idx → BitVec 8 := fun y =>
  codeAt (blkG (V c main_v2) (y 0)) (blkW (V c main_arg1) (y 0)) (blkS (V c main_v3) (y 0)) (y 1) (y 2) (y 3)

/-- The losses, as an array. -/
def lossArr (c : Dev nD) : S20x32x1x1024.Idx → EReal := fun y =>
  lossAt (blkG (V c main_v2) (y 1)) (blkW (V c main_arg1) (y 1)) (blkS (V c main_v3) (y 1)) (y 0) (y 3)

/-- The array of candidate scales the second call leaves. -/
theorem scale_array (c : Dev nD) : (dat1 V c).arrAt 5 cfg1.N = scaleArr V c := by
  refine (dat1 V c).arrAt_eq_of_covers 5 _ (by decide +kernel) fun t _ y => ?_
  blk_simp
  rw [after1_5]
  obtain ⟨k, a, b, l, rfl⟩ : ∃ (k : Fin 20) (a b : Fin 1) (l : Fin 1024), y = ix4 k a b l := ⟨y 0, y 1, y 2, y 3, by idx_ext⟩
  obtain rfl : a = 0 := Subsingleton.elim _ _
  obtain rfl : b = 0 := Subsingleton.elim _ _
  have e : ((win1_5.blk t).view.emb (ix4 k 0 0 l) : S20x32x1x1024.Idx) = ix4 k ⟨t.val, t.isLt⟩ 0 l := by blk_ext [idx1 t]
  refine Eq.trans ?_ (congrArg (scaleArr V c) e).symm
  unfold outsAt1
  dsimp only
  refine (out5_at c _ _ _ _ _ _ _ _ _ _ _ _ _ _ _ _ _ _ _ _ _ _ _ _ _ _ k l).trans ?_
  rw [iblkW, iblkS]
  rfl

/-- The array of packed codes the second call leaves. -/
theorem code_array (c : Dev nD) : (dat1 V c).arrAt 4 cfg1.N = codeArr V c := by
  refine (dat1 V c).arrAt_eq_of_covers 4 _ (by decide +kernel) fun t _ y => ?_
  blk_simp
  rw [after1_4]
  obtain ⟨a, k, q, l, rfl⟩ : ∃ (a : Fin 1) (k : Fin 20) (q : Fin 64) (l : Fin 1024), y = ix4 a k q l := ⟨y 0, y 1, y 2, y 3, by idx_ext⟩
  obtain rfl : a = 0 := Subsingleton.elim _ _
  have e : ((win1_4.blk t).view.emb (ix4 0 k q l) : S32x20x64x1024.Idx) = ix4 ⟨t.val, t.isLt⟩ k q l := by blk_ext [idx1 t]
  refine Eq.trans ?_ (congrArg (codeArr V c) e).symm
  unfold outsAt1
  dsimp only
  refine (out4_at c _ _ _ _ _ _ _ _ _ _ _ _ _ _ _ _ _ _ _ _ _ _ _ _ _ _ k q l).trans ?_
  rw [iblkG, iblkW, iblkS]
  rfl

/-- The array of losses the second call leaves. -/
theorem loss_array (c : Dev nD) : (dat1 V c).arrAt 3 cfg1.N = lossArr V c := by
  refine (dat1 V c).arrAt_eq_of_covers 3 _ (by decide +kernel) fun t _ y => ?_
  blk_simp
  rw [after1_3]
  obtain ⟨k, a, b, l, rfl⟩ : ∃ (k : Fin 20) (a b : Fin 1) (l : Fin 1024), y = ix4 k a b l := ⟨y 0, y 1, y 2, y 3, by idx_ext⟩
  obtain rfl : a = 0 := Subsingleton.elim _ _
  obtain rfl : b = 0 := Subsingleton.elim _ _
  have e : ((win1_3.blk t).view.emb (ix4 k 0 0 l) : S20x32x1x1024.Idx) = ix4 k ⟨t.val, t.isLt⟩ 0 l := by blk_ext [idx1 t]
  refine Eq.trans ?_ (congrArg (lossArr V c) e).symm
  unfold outsAt1
  dsimp only
  refine (out3_at c _ _ _ _ _ _ _ _ _ _ _ _ _ _ _ _ _ _ _ _ _ _ _ _ _ _ k l).trans ?_
  rw [iblkG, iblkW, iblkS]
  rfl

end Cert.KernelIdeal.Gen
end
end
-- ==== Proof.KRun.lean ====
module
public import proofs.«01_k».proof.Proof.Arrays
public import Idealize.ShloMosaic.Lib.Claim
@[expose] public section
set_option maxRecDepth 16384
noncomputable section
namespace Cert.KernelIdeal.Gen
open Cert.KernelIdeal Cert.Proof Idealize.ShloMosaic Idealize.ShloMosaic.TcCoe Idealize.SL.Sem

/-- The Gram matrix of group `g` as the kernel computes it from the tokens and the channel scales. -/
def gK (X : FVec Ideal S24x256x4096 .bf16) (S : FVec Ideal S4096 .f32) (g : Fin 32) : FVec Ideal S1x128x128 .f32 := fun y =>
  gramOf (shapeCast S6144x4096 X shapeCasts_S24x256x4096_S6144x4096) (shapeCast S1x4096 S shapeCasts_S4096_S1x4096) g (y 1) (y 2)

/-- The channel scales of group `g`. -/
def sK (S : FVec Ideal S4096 .f32) (g : Fin 32) : FVec Ideal S1x1x128 .f32 := fun y => S (ix1 (wide g (y 2)))

/-- The channel scales of a group, through the host's reshapes. -/
theorem blkS_cast (S : FVec Ideal S4096 .f32) (g : Fin 32) :
    blkS (shapeCast S32x1x128 (shapeCast S1x4096 S shapeCasts_S4096_S1x4096) shapeCasts_S1x4096_S32x1x128) g = sK S g := by
  funext y
  obtain ⟨a, b, i, rfl⟩ : ∃ (a b : Fin 1) (i : Fin 128), y = ix3 a b i := ⟨y 0, y 1, y 2, by idx_ext⟩
  show shapeCast S32x1x128 (shapeCast S1x4096 S shapeCasts_S4096_S1x4096) shapeCasts_S1x4096_S32x1x128 (ix3 g 0 i) = S (ix1 (wide g i))
  pointwise
  exact congrArg S (congrArg ix1 (Fin.ext (by show g.val * 128 + i.val = 128 * g.val + i.val; omega)))

section Reads
variable (m : (ℓ : Loc nD τ sig) → Buf (Elt Ideal) ℓ) (ρ : Dev nD → PrngReg)

/-- The first kernel reads the tokens, laid out as one row per token. -/
theorem v0_read (c : Dev nD) : V1 m ρ c main_v0 = shapeCast S6144x4096 (m ((c : Thread nD τ).loc main_arg0)) shapeCasts_S24x256x4096_S6144x4096 := by
  change StableHlo.after hostOps0 (W0 m ρ c) (Proc.devRef .tc main_v0) = _
  entry_read
  rfl

/-- The first kernel reads the channel scales, laid out as one row. -/
theorem v1_read (c : Dev nD) : V1 m ρ c main_v1 = shapeCast S1x4096 (m ((c : Thread nD τ).loc main_arg2)) shapeCasts_S4096_S1x4096 := by
  change StableHlo.after hostOps0 (W0 m ρ c) (Proc.devRef .tc main_v1) = _
  entry_read
  rfl

/-- The second kernel reads, for each group, the Gram matrix the first kernel left. -/
theorem v2_read (c : Dev nD) (g : Fin 32) : blkG (V3 m ρ c main_v2) g = gK (m ((c : Thread nD τ).loc main_arg0)) (m ((c : Thread nD τ).loc main_arg2)) g := by
  have h : V3 m ρ c main_v2 = _ := ((W3_of m ρ c main_v2 (by decide)).trans (W2_arr m ρ c 2)).trans (gram_array (V1 m ρ) c)
  rw [h, v0_read, v1_read]
  rfl

/-- The second kernel reads the weights as they were given. -/
theorem w_read (c : Dev nD) : V3 m ρ c main_arg1 = m ((c : Thread nD τ).loc main_arg1) := W3_args m ρ c main_arg1 (by decide)

/-- The second kernel reads the channel scales of each group. -/
theorem v3_read (c : Dev nD) (g : Fin 32) : blkS (V3 m ρ c main_v3) g = sK (m ((c : Thread nD τ).loc main_arg2)) g := by
  have h1 : W2 m ρ c (Proc.devRef .tc main_v1) = _ := (W2_of m ρ c main_v1 (by decide)).trans (v1_read m ρ c)
  have h : V3 m ρ c main_v3 = shapeCast S32x1x128 (W2 m ρ c (Proc.devRef .tc main_v1)) shapeCasts_S1x4096_S32x1x128 := by
    change StableHlo.after hostOps1 (W2 m ρ c) (Proc.devRef .tc main_v3) = _
    entry_read
    rfl
  rw [h, h1]
  exact blkS_cast _ g

/-- The losses the kernel's run ends with. -/
theorem v6_read (c : Dev nD) (l : Fin 1024) (g : Fin 32) (k : Fin 20) : W5 m ρ c (Proc.devRef .tc main_v6) (ix3 l g k)
    = lossAt (gK (m ((c : Thread nD τ).loc main_arg0)) (m ((c : Thread nD τ).loc main_arg2)) g)
        (blkW (m ((c : Thread nD τ).loc main_arg1)) g) (sK (m ((c : Thread nD τ).loc main_arg2)) g) k l := by
  have h4 : W4 m ρ c (Proc.devRef .tc main_v4_0) = _ := (W4_arr m ρ c 3).trans (loss_array (V3 m ρ) c)
  have h : W5 m ρ c (Proc.devRef .tc main_v6) = transpose S1024x32x20 [2, 1, 0] (shapeCast S20x32x1024 (W4 m ρ c (Proc.devRef .tc main_v4_0))
      shapeCasts_S20x32x1x1024_S20x32x1024) transposes_S20x32x1024_S1024x32x20_2_1_0 := by
    change StableHlo.after hostOps2 (W4 m ρ c) (Proc.devRef .tc main_v6) = _
    entry_read
    rfl
  rw [h, h4, ← v2_read m ρ, ← w_read m ρ, ← v3_read m ρ]
  pointwise
  rfl

/-- The candidate scales the kernel's run ends with. -/
theorem v8_read (c : Dev nD) (l : Fin 1024) (g : Fin 32) (k : Fin 20) : W5 m ρ c (Proc.devRef .tc main_v8) (ix3 l g k)
    = scaleAt (blkW (m ((c : Thread nD τ).loc main_arg1)) g) (sK (m ((c : Thread nD τ).loc main_arg2)) g) k l := by
  have h4 : W4 m ρ c (Proc.devRef .tc main_v4_2) = _ := (W4_arr m ρ c 5).trans (scale_array (V3 m ρ) c)
  have h : W5 m ρ c (Proc.devRef .tc main_v8) = transpose S1024x32x20 [2, 1, 0] (shapeCast S20x32x1024 (W4 m ρ c (Proc.devRef .tc main_v4_2))
      shapeCasts_S20x32x1x1024_S20x32x1024) transposes_S20x32x1024_S1024x32x20_2_1_0 := by
    change StableHlo.after hostOps2 (W4 m ρ c) (Proc.devRef .tc main_v8) = _
    entry_read
    rfl
  rw [h, h4, ← w_read m ρ, ← v3_read m ρ]
  pointwise
  rfl

/-- The packed codes the kernel's run ends with. -/
theorem v9_read (c : Dev nD) (l : Fin 1024) (g : Fin 32) (k : Fin 20) (q : Fin 64) : W5 m ρ c (Proc.devRef .tc main_v9) (ix4 l g k q)
    = codeAt (gK (m ((c : Thread nD τ).loc main_arg0)) (m ((c : Thread nD τ).loc main_arg2)) g)
        (blkW (m ((c : Thread nD τ).loc main_arg1)) g) (sK (m ((c : Thread nD τ).loc main_arg2)) g) k q l := by
  have h4 : W4 m ρ c (Proc.devRef .tc main_v4_1) = _ := (W4_arr m ρ c 4).trans (code_array (V3 m ρ) c)
  have h : W5 m ρ c (Proc.devRef .tc main_v9) = transpose S1024x32x20x64 [3, 0, 1, 2] (W4 m ρ c (Proc.devRef .tc main_v4_1))
      transposes_S32x20x64x1024_S1024x32x20x64_3_0_1_2 := by
    change StableHlo.after hostOps2 (W4 m ρ c) (Proc.devRef .tc main_v9) = _
    entry_read
    rfl
  rw [h, h4, ← v2_read m ρ, ← w_read m ρ, ← v3_read m ρ]
  pointwise
  rfl

end Reads

section Run
open Idealize.ShloMosaic.Tactic Idealize.SL Idealize.SL.RA Idealize.SL.BI
open scoped Idealize.SL.BI
open Idealize.SL.BI.BIBase Idealize.SL.BI.Laws Idealize.SL.ProofMode Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel's run: it ends with its three results at the contents the host tail leaves, its arguments unchanged. -/
theorem run : θ_run defs (onTc (τ := τ) (main (F := Ideal))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v9) = W5 m ρ c (Proc.devRef .tc main_v9)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)), h c _ (mem_uc main_v9 (by decide)), h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Run
end Cert.KernelIdeal.Gen
end
end
-- ==== Proof.RefTerm.lean ====
module
public import proofs.«01_k».proof.Proof.Gen.ReferenceIdeal.Run
public import proofs.«01_k».proof.Proof.Consts
@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo

/-- The scaled weights. -/
def rWs (W : FVec Ideal S1024x4096 .bf16) (S : FVec Ideal S4096 .f32) : FVec Ideal S32x1024x128 .f32 :=
  mulf (extf .f32 (transpose S32x1024x128 [1, 0, 2] (shapeCast _ W shapeCasts_S1024x4096_S1024x32x128) transposes_S1024x32x128_S32x1024x128_1_0_2) bitsLt_bf16_f32) (broadcastInDim S32x1024x128 ![0, 1, 2] bcast_S32x1x128_S32x1024x128_0_1_2 (broadcastInDim S32x1x128 ![0, 2] bcast_S32x128_S32x1x128_0_2 (shapeCast _ S shapeCasts_S4096_S32x128)))

/-- The largest scaled weight of every row. -/
def rMax (W : FVec Ideal S1024x4096 .bf16) (S : FVec Ideal S4096 .f32) : FVec Ideal S32x1024 .f32 :=
  Host.reduce FloatOps.maximumf (Host.absf (rWs W S)) (constant S_ .f32 0xFF800000#32) reducesTo_S32x1024x128_S32x1024_d2 h_S_

/-- The clipping ratios. -/
def rRatio  : FVec Ideal S20 .f32 :=
  subf (broadcastInDim S20 ![] bcast_S_S20 (constant S_ .f32 0x3F800000#32)) (Host.divf (sitofp .f32 (iotaInDim S20 32 0)) (broadcastInDim S20 ![] bcast_S_S20 (constant S_ .f32 0x42200000#32)))

/-- Whether a row is all zero. -/
def rZero (W : FVec Ideal S1024x4096 .bf16) (S : FVec Ideal S4096 .f32) : IVec S32x1024x20 1 :=
  broadcastInDim S32x1024x20 ![0, 1, 2] bcast_S32x1024x1_S32x1024x20_0_1_2 (cmpf .oeq (broadcastInDim S32x1024x1 ![0, 1] bcast_S32x1024_S32x1024x1_0_1 (rMax W S)) (broadcastInDim S32x1024x1 ![] bcast_S_S32x1024x1 (constant S_ .f32 0x00000000#32)))

/-- The scale of a row that is not all zero. -/
def rNum (W : FVec Ideal S1024x4096 .bf16) (S : FVec Ideal S4096 .f32) : FVec Ideal S32x1024x20 .f32 :=
  Host.divf (mulf (broadcastInDim S32x1024x20 ![0, 1, 2] bcast_S1x1x20_S32x1024x20_0_1_2 (broadcastInDim S1x1x20 ![2] bcast_S20_S1x1x20_2 rRatio)) (broadcastInDim S32x1024x20 ![0, 1, 2] bcast_S32x1024x1_S32x1024x20_0_1_2 (broadcastInDim S32x1024x1 ![0, 1] bcast_S32x1024_S32x1024x1_0_1 (rMax W S)))) (broadcastInDim S32x1024x20 ![] bcast_S_S32x1024x20 (constant S_ .f32 0x40E00000#32))

/-- The candidate scales. -/
def rScale (W : FVec Ideal S1024x4096 .bf16) (S : FVec Ideal S4096 .f32) : FVec Ideal S32x1024x20 .f32 :=
  select (rZero W S) (broadcastInDim S32x1024x20 ![] bcast_S_S32x1024x20 (constant S_ .f32 0x3F800000#32)) (rNum W S)

/-- The scaled weights, at every candidate. -/
def rWs4 (W : FVec Ideal S1024x4096 .bf16) (S : FVec Ideal S4096 .f32) : FVec Ideal S32x1024x20x128 .f32 :=
  broadcastInDim S32x1024x20x128 ![0, 1, 2, 3] bcast_S32x1024x1x128_S32x1024x20x128_0_1_2_3 (broadcastInDim S32x1024x1x128 ![0, 1, 3] bcast_S32x1024x128_S32x1024x1x128_0_1_3 (rWs W S))

/-- The candidate scales, at every weight. -/
def rScale4 (W : FVec Ideal S1024x4096 .bf16) (S : FVec Ideal S4096 .f32) : FVec Ideal S32x1024x20x128 .f32 :=
  broadcastInDim S32x1024x20x128 ![0, 1, 2, 3] bcast_S32x1024x20x1_S32x1024x20x128_0_1_2_3 (broadcastInDim S32x1024x20x1 ![0, 1, 2] bcast_S32x1024x20_S32x1024x20x1_0_1_2 (rScale W S))

/-- The quotients to round. -/
def rQuot (W : FVec Ideal S1024x4096 .bf16) (S : FVec Ideal S4096 .f32) : FVec Ideal S32x1024x20x128 .f32 :=
  Host.divf (rWs4 W S) (rScale4 W S)

/-- The codes. -/
def rCode (W : FVec Ideal S1024x4096 .bf16) (S : FVec Ideal S4096 .f32) : IVec S32x1024x20x128 32 :=
  fptosi 32 (minimumf (broadcastInDim S32x1024x20x128 ![] bcast_S_S32x1024x20x128 (sitofp .f32 (constantI S_ 32 7#32))) (maximumf (broadcastInDim S32x1024x20x128 ![] bcast_S_S32x1024x20x128 (sitofp .f32 (constantI S_ 32 4294967289#32))) (Host.roundeven (rQuot W S))))

/-- The rounding errors. -/
def rErr (W : FVec Ideal S1024x4096 .bf16) (S : FVec Ideal S4096 .f32) : FVec Ideal S32x1024x20x128 .f32 :=
  subf (rWs4 W S) (mulf (sitofp .f32 (rCode W S)) (rScale4 W S))

/-- The Gram matrices of the scaled tokens. -/
def rGram (X : FVec Ideal S24x256x4096 .bf16) (S : FVec Ideal S4096 .f32) : FVec Ideal S32x128x128 .f32 :=
  Host.dotGeneral dot_S6144x32x128_S6144x32x128_S32x128x128_0_0_2_2_1_1 (some .fp32) (Host.divf (extf .f32 (shapeCast _ X shapeCasts_S24x256x4096_S6144x32x128) bitsLt_bf16_f32) (broadcastInDim S6144x32x128 ![0, 1, 2] bcast_S1x32x128_S6144x32x128_0_1_2 (broadcastInDim S1x32x128 ![1, 2] bcast_S32x128_S1x32x128_1_2 (shapeCast _ S shapeCasts_S4096_S32x128)))) (Host.divf (extf .f32 (shapeCast _ X shapeCasts_S24x256x4096_S6144x32x128) bitsLt_bf16_f32) (broadcastInDim S6144x32x128 ![0, 1, 2] bcast_S1x32x128_S6144x32x128_0_1_2 (broadcastInDim S1x32x128 ![1, 2] bcast_S32x128_S1x32x128_1_2 (shapeCast _ S shapeCasts_S4096_S32x128))))

/-- The candidate scales, as returned. -/
def rOutScale (W : FVec Ideal S1024x4096 .bf16) (S : FVec Ideal S4096 .f32) : FVec Ideal S1024x32x20 .f32 :=
  transpose S1024x32x20 [1, 0, 2] (rScale W S) transposes_S32x1024x20_S1024x32x20_1_0_2

/-- The losses, as returned. -/
def rOutLoss (X : FVec Ideal S24x256x4096 .bf16) (W : FVec Ideal S1024x4096 .bf16) (S : FVec Ideal S4096 .f32) : FVec Ideal S1024x32x20 .f32 :=
  transpose S1024x32x20 [1, 0, 2] (shapeCast _ (Host.reduceAdd (mulf (Host.dotGeneral dot_S32x20480x128_S32x128x128_S32x20480x128_2_1_1_2_0_0 (some .fp32) (shapeCast _ (rErr W S) shapeCasts_S32x1024x20x128_S32x20480x128) (rGram X S)) (shapeCast _ (rErr W S) shapeCasts_S32x1024x20x128_S32x20480x128)) (constant S_ .f32 0x00000000#32) reducesTo_S32x20480x128_S32x20480_d2 h_S_) shapeCasts_S32x20480_S32x1024x20) transposes_S32x1024x20_S1024x32x20_1_0_2

/-- The packed codes, as returned. -/
def rOutByte (W : FVec Ideal S1024x4096 .bf16) (S : FVec Ideal S4096 .f32) : IVec S1024x32x20x64 8 :=
  transpose S1024x32x20x64 [1, 0, 2, 3] (trunci 8 (ori (Host.slice S32x1024x20x64 ![0, 0, 0, 0] ![1, 1, 1, 2] (andi (rCode W S) (broadcastInDim S32x1024x20x128 ![] bcast_S_S32x1024x20x128 (constantI S_ 32 15#32))) slicesBy_S32x1024x20x128_S32x1024x20x64_0s1_0s1_0s1_0s2) (Host.shli (Host.slice S32x1024x20x64 ![0, 0, 0, 1] ![1, 1, 1, 2] (andi (rCode W S) (broadcastInDim S32x1024x20x128 ![] bcast_S_S32x1024x20x128 (constantI S_ 32 15#32))) slicesBy_S32x1024x20x128_S32x1024x20x64_0s1_0s1_0s1_1s2) (broadcastInDim S32x1024x20x64 ![] bcast_S_S32x1024x20x64 (constantI S_ 32 4#32)))) natLt_8_32) transposes_S32x1024x20x64_S1024x32x20x64_1_0_2_3

variable (m : (ℓ : Loc nD τ sig) → Buf (Elt Ideal) ℓ) (c : Dev nD)

/-- The reference's losses, by name. -/
theorem res59 : res_main_v59 m c = rOutLoss (m ((c.tc : Thread nD τ).loc main_arg0)) (m ((c.tc : Thread nD τ).loc main_arg1)) (m ((c.tc : Thread nD τ).loc main_arg2)) := rfl
/-- The reference's packed codes, by name. -/
theorem res60 : res_main_v60 m c = rOutByte (m ((c.tc : Thread nD τ).loc main_arg1)) (m ((c.tc : Thread nD τ).loc main_arg2)) := rfl

end Cert.ReferenceIdeal.Value
end
end
-- ==== Proof.RefAt.lean ====
module
public import proofs.«01_k».proof.Proof.RefTerm
@[expose] public section
set_option maxRecDepth 16384
noncomputable section
namespace Cert.Proof
open Idealize.ShloMosaic

/-- The largest scaled weight of a row. -/
def refMax (u : Fin 128 → EReal) : EReal :=
  Finset.fold max (Ideal.ofBits FTy.f32 4286578688#32) (fun x => FloatOps.absf (F := Ideal) (φ := .f32) (u x)) Finset.univ

/-- The candidate scale number `k` of a row. -/
def refScale (u : Fin 128 → EReal) (k : Fin 20) : EReal :=
  if refMax u = 0 then 1 else Ideal.div ((1 - Ideal.div (FloatOps.sitofp (F := Ideal) FTy.f32 (BitVec.ofNat 32 k.val))
    (Ideal.ofBits FTy.f32 1109393408#32)) * refMax u) (Ideal.ofBits FTy.f32 1088421888#32)

/-- The code of weight `i` of a row under the scale `σ`. -/
def refCode (u : Fin 128 → EReal) (σ : EReal) (i : Fin 128) : BitVec 32 :=
  FloatOps.fptosi (F := Ideal) (φ := .f32) 32 (min (FloatOps.sitofp (F := Ideal) FTy.f32 7#32)
    (max (FloatOps.sitofp (F := Ideal) FTy.f32 4294967289#32) (Ideal.liftRound Ideal.roundHalfEven (Ideal.div (u i) σ))))

/-- The rounding error of weight `i` of a row under the scale `σ`. -/
def refErr (u : Fin 128 → EReal) (σ : EReal) (i : Fin 128) : EReal :=
  u i - FloatOps.sitofp (F := Ideal) FTy.f32 (refCode u σ i) * σ

/-- The loss of a row: the quadratic form of the Gram matrix at the rounding errors. -/
def refLoss (u : Fin 128 → EReal) (G : Fin 128 → Fin 128 → EReal) (σ : EReal) : EReal :=
  ∑ x, (∑ x_1, refErr u σ x_1 * G x_1 x) * refErr u σ x

/-- Byte `q` of a row's packed codes. -/
def refByte (u : Fin 128 → EReal) (σ : EReal) (q : Fin 64) : BitVec 8 :=
  BitVec.setWidth 8 (IntOp.ori (IntOp.andi (refCode u σ ⟨2 * q.val, by omega⟩) 15#32)
    (IntOp.shli ArithUnit.host (IntOp.andi (refCode u σ ⟨1 + 2 * q.val, by omega⟩) 15#32) 4#32))

/-- The Gram matrix of a group: the tokens divided by the channel scales first. -/
def refGram (x : Fin 6144 → Fin 128 → EReal) (s : Fin 128 → EReal) (i j : Fin 128) : EReal :=
  ∑ n : Fin 6144, Ideal.div (x n i) (s i) * Ideal.div (x n j) (s j)

end Cert.Proof

namespace Cert.ReferenceIdeal.Value
open Cert.ReferenceIdeal Cert.ReferenceIdeal.Gen Cert.Proof Idealize.ShloMosaic Idealize.ShloMosaic.TcCoe Idealize.SL.Sem Idealize.ShloMosaic.StableHlo

section Generic
variable (A B : FVec Ideal S32x1024x20x128 .f32) (C : IVec S32x1024x20x128 32) (g : Fin 32) (l : Fin 1024) (k : Fin 20) (i : Fin 128)

/-- The weights over the scales, at one place. -/
theorem quot_at : Host.divf A B (ix4 g l k i) = Ideal.div (A (ix4 g l k i)) (B (ix4 g l k i)) := rfl

/-- The rounding errors, at one place. -/
theorem err_at : subf A (mulf (sitofp .f32 C) B) (ix4 g l k i)
    = A (ix4 g l k i) - FloatOps.sitofp (F := Ideal) FTy.f32 (C (ix4 g l k i)) * B (ix4 g l k i) := rfl

/-- The test for an all-zero row, at one place. -/
theorem zero_at (M : FVec Ideal S32x1024 .f32) :
    broadcastInDim S32x1024x20 ![0, 1, 2] bcast_S32x1024x1_S32x1024x20_0_1_2 (cmpf .oeq (broadcastInDim S32x1024x1 ![0, 1] bcast_S32x1024_S32x1024x1_0_1 M) (broadcastInDim S32x1024x1 ![] bcast_S_S32x1024x1 (constant S_ .f32 0x00000000#32))) (ix3 g l k)
      = BitVec.ofBool (decide (M (ix2 g l) = 0)) := by
  pointwise

/-- The codes, at one place. -/
theorem code_at :
    fptosi 32 (minimumf (broadcastInDim S32x1024x20x128 ![] bcast_S_S32x1024x20x128 (sitofp .f32 (constantI S_ 32 7#32))) (maximumf (broadcastInDim S32x1024x20x128 ![] bcast_S_S32x1024x20x128 (sitofp .f32 (constantI S_ 32 4294967289#32))) (Host.roundeven A))) (ix4 g l k i)
      = FloatOps.fptosi (F := Ideal) (φ := .f32) 32 (min (FloatOps.sitofp (F := Ideal) FTy.f32 7#32)
        (max (FloatOps.sitofp (F := Ideal) FTy.f32 4294967289#32) (Ideal.liftRound Ideal.roundHalfEven (A (ix4 g l k i))))) := rfl

/-- The scale with the all-zero rows set to one, at one place. -/
theorem scale_at (Z : IVec S32x1024x20 1) (N : FVec Ideal S32x1024x20 .f32) :
    select Z (broadcastInDim S32x1024x20 ![] bcast_S_S32x1024x20 (constant S_ .f32 0x3F800000#32)) N (ix3 g l k)
      = Scalar.select (Z (ix3 g l k)) 1 (N (ix3 g l k)) := by
  pointwise

end Generic

variable (X : FVec Ideal S24x256x4096 .bf16) (W : FVec Ideal S1024x4096 .bf16) (S : FVec Ideal S4096 .f32)

/-- The scaled weights of row `l` in group `g`. -/
def wsR (g : Fin 32) (l : Fin 1024) (i : Fin 128) : EReal :=
  W (ix2 l ⟨128 * g.val + i.val, by omega⟩) * S (ix1 ⟨128 * g.val + i.val, by omega⟩)

/-- The tokens in group `g`. -/
def xR (g : Fin 32) (n : Fin 6144) (i : Fin 128) : EReal :=
  X (ix3 (⟨n.val / 256, by omega⟩ : Fin 24) (⟨n.val % 256, by omega⟩ : Fin 256) ⟨128 * g.val + i.val, by omega⟩)

/-- The channel scales in group `g`. -/
def sR (g : Fin 32) (i : Fin 128) : EReal := S (ix1 ⟨128 * g.val + i.val, by omega⟩)

/-- A channel's number, counted either way. -/
theorem col_eq (g : Fin 32) (i : Fin 128) (h : g.val * 128 + i.val < 4096) :
    (⟨g.val * 128 + i.val, h⟩ : Fin 4096) = ⟨128 * g.val + i.val, by omega⟩ := Fin.ext (by simp only; omega)

/-- The reference's scaled weights, at one place. -/
theorem rWs_at (g : Fin 32) (l : Fin 1024) (i : Fin 128) : rWs W S (ix3 g l i) = wsR W S g l i := by
  pointwise [rWs]
  simp only [col_eq]
  rfl

/-- The reference's largest scaled weight of a row. -/
theorem rMax_at (g : Fin 32) (l : Fin 1024) : rMax W S (ix2 g l) = refMax (wsR W S g l) := by
  unfold rMax refMax
  simp only [← rWs_at]
  generalize rWs W S = A
  pointwise

/-- The reference's candidate scale, at one place. -/
theorem rScale_at (g : Fin 32) (l : Fin 1024) (k : Fin 20) : rScale W S (ix3 g l k) = refScale (wsR W S g l) k := by
  have hn : rNum W S (ix3 g l k) = Ideal.div ((1 - Ideal.div (FloatOps.sitofp (F := Ideal) FTy.f32 (BitVec.ofNat 32 k.val))
      (Ideal.ofBits FTy.f32 1109393408#32)) * rMax W S (ix2 g l)) (Ideal.ofBits FTy.f32 1088421888#32) := by
    unfold rNum
    generalize rMax W S = M
    pointwise [rRatio]
  have hz : rZero W S (ix3 g l k) = BitVec.ofBool (decide (rMax W S (ix2 g l) = 0)) := by
    unfold rZero
    exact zero_at g l k _
  unfold rScale
  refine (scale_at g l k _ _).trans ?_
  rw [hn, hz, rMax_at]
  unfold refScale
  by_cases h : refMax (wsR W S g l) = 0
  · rw [if_pos h, decide_eq_true h]; rfl
  · rw [if_neg h, decide_eq_false h]; rfl

/-- The reference's scaled weights, repeated over the candidates. -/
theorem rWs4_at (g : Fin 32) (l : Fin 1024) (k : Fin 20) (i : Fin 128) : rWs4 W S (ix4 g l k i) = wsR W S g l i := by
  rw [← rWs_at]
  unfold rWs4
  generalize rWs W S = A
  pointwise

/-- The reference's candidate scale, repeated over the channels. -/
theorem rScale4_at (g : Fin 32) (l : Fin 1024) (k : Fin 20) (i : Fin 128) :
    rScale4 W S (ix4 g l k i) = refScale (wsR W S g l) k := by
  rw [← rScale_at]
  unfold rScale4
  generalize rScale W S = A
  pointwise

/-- The reference's weights over the scales, at one place. -/
theorem rQuot_at (g : Fin 32) (l : Fin 1024) (k : Fin 20) (i : Fin 128) :
    rQuot W S (ix4 g l k i) = Ideal.div (wsR W S g l i) (refScale (wsR W S g l) k) := by
  unfold rQuot
  refine (quot_at _ _ g l k i).trans ?_
  rw [rWs4_at, rScale4_at]

/-- The reference's codes, at one place. -/
theorem rCode_at (g : Fin 32) (l : Fin 1024) (k : Fin 20) (i : Fin 128) :
    rCode W S (ix4 g l k i) = refCode (wsR W S g l) (refScale (wsR W S g l) k) i := by
  unfold rCode
  refine (code_at _ g l k i).trans ?_
  rw [rQuot_at]
  rfl

/-- The reference's rounding errors, at one place. -/
theorem rErr_at (g : Fin 32) (l : Fin 1024) (k : Fin 20) (i : Fin 128) :
    rErr W S (ix4 g l k i) = refErr (wsR W S g l) (refScale (wsR W S g l) k) i := by
  unfold rErr
  refine (err_at _ _ _ g l k i).trans ?_
  rw [rWs4_at, rScale4_at, rCode_at]
  rfl

/-- The reference's Gram matrix, at one place. -/
theorem rGram_at (g : Fin 32) (i j : Fin 128) : rGram X S (ix3 g i j) = refGram (xR X g) (sR S g) i j := by
  pointwise [rGram]
  simp only [col_eq]
  rfl

/-- The candidate scales the reference returns. -/
theorem rOutScale_at (l : Fin 1024) (g : Fin 32) (k : Fin 20) : rOutScale W S (ix3 l g k) = refScale (wsR W S g l) k := by
  rw [← rScale_at]
  unfold rOutScale
  generalize rScale W S = A
  pointwise

/-- The losses the reference returns. -/
theorem rOutLoss_at (l : Fin 1024) (g : Fin 32) (k : Fin 20) :
    rOutLoss X W S (ix3 l g k) = refLoss (wsR W S g l) (refGram (xR X g) (sR S g)) (refScale (wsR W S g l) k) := by
  unfold refLoss
  simp only [← rErr_at, ← rGram_at]
  unfold rOutLoss
  generalize rErr W S = A
  generalize rGram X S = B
  pointwise

/-- The packed codes the reference returns. -/
theorem rOutByte_at (l : Fin 1024) (g : Fin 32) (k : Fin 20) (q : Fin 64) :
    rOutByte W S (ix4 l g k q) = refByte (wsR W S g l) (refScale (wsR W S g l) k) q := by
  unfold refByte
  simp only [← rCode_at]
  unfold rOutByte
  generalize rCode W S = A
  pointwise

end Cert.ReferenceIdeal.Value
end
end
-- ==== Proof.ColCode.lean ====
module
public import proofs.«01_k».proof.Proof.Setup
public import proofs.«01_k».proof.Proof.RefAt
@[expose] public section
set_option maxRecDepth 16384
noncomputable section
namespace Cert.Proof
open Idealize.ShloMosaic

/-- The code of the quotient `r`: rounded half to even and clipped to seven. -/
def codeI (r : ℝ) : ℤ := min 7 (max (-7) (Ideal.roundHalfEven r))

/-- A code lies between minus seven and seven. -/
theorem codeI_bounds (r : ℝ) : -7 ≤ codeI r ∧ codeI r ≤ 7 := by unfold codeI; omega

/-- The code of zero is zero. -/
theorem codeI_zero : codeI 0 = 0 := by
  simp [codeI, Ideal.roundHalfEven]

/-- The clip, on an integer read as a real. -/
theorem clip_coe (z : ℤ) : min ((7 : ℝ) : EReal) (max ((-7 : ℝ) : EReal) (((z : ℤ) : ℝ) : EReal))
    = (((min 7 (max (-7) z) : ℤ) : ℝ) : EReal) := by
  rw [← EReal.coe_strictMono.monotone.map_max, ← EReal.coe_strictMono.monotone.map_min]
  push_cast
  rfl

/-- The kernel's code of a real weight at a real reciprocal scale. -/
theorem code_coe (u ρ : ℝ) : code (u : EReal) (ρ : EReal) = ((codeI (u * ρ) : ℝ) : EReal) := by
  unfold code codeI
  rw [lit_7, lit_neg7, ← EReal.coe_mul, Ideal.liftRound_coe, clip_coe]

/-- An integer in range goes through the float-to-integer conversion unchanged. -/
theorem fptosi_coe (z : ℤ) (h1 : -2147483648 ≤ z) (h2 : z ≤ 2147483647) :
    FloatOps.fptosi (F := Ideal) (φ := .f32) 32 ((z : ℝ) : EReal) = BitVec.ofInt 32 z := by
  show BitVec.ofInt 32 (Ideal.toIntClamped _ _ ((z : ℝ) : EReal)) = _
  rw [Ideal.toIntClamped_coe]
  congr 1
  split <;> simp <;> omega

/-- The reference's code of a real weight at a real scale. -/
theorem refCode_coe (u : Fin 128 → ℝ) (σ : ℝ) (hσ : σ ≠ 0) (i : Fin 128) :
    refCode (fun i => (u i : EReal)) (σ : EReal) i = BitVec.ofInt 32 (codeI (u i * (1 / σ))) := by
  unfold refCode
  have h7 : FloatOps.sitofp (F := Ideal) FTy.f32 7#32 = ((7 : ℝ) : EReal) := by
    show (((7#32 : BitVec 32).toInt : ℝ) : EReal) = _
    rw [show (7#32 : BitVec 32).toInt = 7 by decide]
    norm_num
  have hm7 : FloatOps.sitofp (F := Ideal) FTy.f32 4294967289#32 = ((-7 : ℝ) : EReal) := by
    show (((4294967289#32 : BitVec 32).toInt : ℝ) : EReal) = _
    rw [show (4294967289#32 : BitVec 32).toInt = -7 by decide]
    norm_num
  rw [h7, hm7, Ideal.div_coe hσ, ← EReal.coe_mul, Ideal.liftRound_coe, clip_coe]
  have hb := codeI_bounds (u i * (1 / σ))
  exact fptosi_coe _ (by unfold codeI at hb; omega) (by unfold codeI at hb; omega)

/-- The code, read back as a float. -/
theorem sitofp_code (z : ℤ) (h : -7 ≤ z ∧ z ≤ 7) :
    FloatOps.sitofp (F := Ideal) FTy.f32 (BitVec.ofInt 32 z) = ((z : ℝ) : EReal) := by
  show (((BitVec.ofInt 32 z).toInt : ℝ) : EReal) = _
  rw [BitVec.toInt_ofInt, Int.bmod_eq_of_le (by omega) (by omega)]

/-- The reference's rounding error of a real weight at a real scale. -/
theorem refErr_coe (u : Fin 128 → ℝ) (σ : ℝ) (hσ : σ ≠ 0) (i : Fin 128) :
    refErr (fun i => (u i : EReal)) (σ : EReal) i = ((u i - codeI (u i * (1 / σ)) * σ : ℝ) : EReal) := by
  unfold refErr
  rw [refCode_coe u σ hσ, sitofp_code _ (codeI_bounds _), ← EReal.coe_mul, ← EReal.coe_sub]

/-- The largest scaled weight of a real row is a nonnegative real. -/
theorem refMax_coe (u : Fin 128 → ℝ) : ∃ a : ℝ, 0 ≤ a ∧ refMax (fun i => (u i : EReal)) = (a : EReal) := by
  have habs (i : Fin 128) : FloatOps.absf (F := Ideal) (φ := .f32) (u i : EReal) = ((|u i| : ℝ) : EReal) := by
    show max (u i : EReal) (-(u i : EReal)) = _
    rw [← EReal.coe_neg, ← EReal.coe_strictMono.monotone.map_max]
    rfl
  have h0 : (0 : EReal) ≤ refMax (fun i => (u i : EReal)) := by
    unfold refMax
    rw [Finset.le_fold_max]
    exact Or.inr ⟨0, Finset.mem_univ _, by rw [habs]; exact_mod_cast abs_nonneg _⟩
  have ht : refMax (fun i => (u i : EReal)) < ⊤ := by
    unfold refMax
    rw [Finset.fold_max_lt]
    exact ⟨by rw [lit_bot]; exact bot_lt_top, fun i _ => by rw [habs]; exact EReal.coe_lt_top _⟩
  refine ⟨(refMax (fun i => (u i : EReal))).toReal, EReal.toReal_nonneg h0, (EReal.coe_toReal ht.ne ?_).symm⟩
  exact (lt_of_lt_of_le EReal.bot_lt_zero h0).ne'

/-- Both programs' candidate scales are the same, for every largest weight. -/
theorem scaleOf_eq (u : Fin 128 → EReal) (k : Fin 20) : scaleOf k.val (refMax u) = refScale u k := by
  unfold scaleOf refScale
  rw [lit_40, lit_7, Ideal.div_coe (by norm_num : (40 : ℝ) ≠ 0), Ideal.div_coe (by norm_num : (7 : ℝ) ≠ 0)]

/-- The candidate scale of a real row is a positive real. -/
theorem refScale_coe (u : Fin 128 → ℝ) (k : Fin 20) : ∃ σ : ℝ, 0 < σ ∧ refScale (fun i => (u i : EReal)) k = (σ : EReal) := by
  obtain ⟨a, ha, e⟩ := refMax_coe u
  rw [← scaleOf_eq, e]
  unfold scaleOf
  by_cases h : a = 0
  · refine ⟨1, one_pos, ?_⟩
    rw [h, EReal.coe_zero, if_pos rfl, EReal.coe_one]
  · have hk : FloatOps.sitofp (F := Ideal) FTy.f32 (BitVec.ofNat 32 k.val) = ((k.val : ℝ) : EReal) := by
      show (((BitVec.ofNat 32 k.val).toInt : ℝ) : EReal) = _
      rw [(by decide : ∀ k : Fin 20, (BitVec.ofNat 32 k.val).toInt = (k.val : ℤ)) k]
      norm_num
    refine ⟨(1 - k.val * (1 / 40)) * a * (1 / 7), ?_, ?_⟩
    · have hk20 : (k.val : ℝ) < 20 := by exact_mod_cast k.isLt
      have : 0 < a := lt_of_le_of_ne ha (Ne.symm h)
      have : 0 < 1 - (k.val : ℝ) * (1 / 40) := by linarith
      positivity
    · rw [if_neg (by exact_mod_cast h), hk]
      norm_cast

end Cert.Proof
end
end
-- ==== Proof.ColLoss.lean ====
module
public import proofs.«01_k».proof.Proof.ColCode
@[expose] public section
set_option maxRecDepth 16384
noncomputable section
namespace Cert.Proof
open Idealize.ShloMosaic Cert.KernelIdeal Cert.KernelIdeal.Gen

/-- A sum of reals is real. -/
theorem coe_sum {n : ℕ} (a : Fin n → ℝ) : ((∑ i, a i : ℝ) : EReal) = ∑ i, (a i : EReal) := by
  induction n with
  | zero => simp
  | succ n ih => rw [Fin.sum_univ_succ, Fin.sum_univ_succ, EReal.coe_add, ih]

/-- A sum of products, the second factors real and each first factor real wherever the second is not zero, is real. -/
theorem sum_mul_coe {n : ℕ} (A : Fin n → EReal) (a b : Fin n → ℝ) (h : ∀ i, b i = 0 ∨ A i = (a i : EReal)) :
    ∑ i, A i * (b i : EReal) = ((∑ i, a i * b i : ℝ) : EReal) := by
  rw [coe_sum]
  refine Finset.sum_congr rfl fun i _ => ?_
  rcases h i with h | h
  · rw [h, EReal.coe_zero, mul_zero, mul_zero, EReal.coe_zero]
  · rw [h, EReal.coe_mul]

/-- The rows `8 x + s` over the sixteen `x` and the eight `s` are all the rows. -/
theorem sum_rows (f : Fin 128 → EReal) :
    ∑ s : Fin 8, ∑ x : Fin 16, f ⟨x.val * 8 + s.val, by omega⟩ = ∑ i, f i := by
  rw [Finset.sum_comm, ← Finset.sum_product', ← (finProdFinEquiv (m := 16) (n := 8)).sum_comp f]
  refine Finset.sum_congr rfl fun p _ => congrArg f (Fin.ext ?_)
  show p.1.val * 8 + p.2.val = p.2.val + 8 * p.1.val
  omega

section Column
variable (u : Fin 128 → ℝ) (G : FVec Ideal S1x128x128 .f32) (R : Fin 128 → Fin 128 → EReal) (γ : Fin 128 → Fin 128 → ℝ)
  (σ : ℝ) (hσ : 0 < σ)

/-- A row of the product against the codes: the three limbs of the Gram matrix add up to the matrix itself. -/
theorem limbs_coe (hG : ∀ i j, u i = 0 ∨ u j = 0 ∨ G (ix3 0 i j) = (γ i j : EReal)) (i : Fin 128) (hi : u i ≠ 0) (ρ : ℝ) :
    rowOut (lhsOf G ⟨i.val, by omega⟩) (fun i => (u i : EReal)) (ρ : EReal)
        + rowOut (lhsOf G ⟨128 + i.val, by omega⟩) (fun i => (u i : EReal)) (ρ : EReal)
      = ((∑ x, γ i x * (codeI (u x * ρ) : ℝ) : ℝ) : EReal) := by
  have hc (x : Fin 128) : ((codeI (u x * ρ) : ℤ) : ℝ) = 0 ∨ G (ix3 0 i x) = (γ i x : EReal) := by
    rcases hG i x with h | h | h
    · exact absurd h hi
    · left; rw [h, zero_mul, codeI_zero, Int.cast_zero]
    · exact Or.inr h
  have s1 := sum_mul_coe (fun x => lhsOf G ⟨i.val, by omega⟩ ⟨x.val, by omega⟩) (γ i) (fun x => ((codeI (u x * ρ) : ℤ) : ℝ)) fun x =>
    (hc x).imp id fun h => by
      simp only [lhsOf, i.isLt, x.isLt, dif_pos]
      exact h
  have s2 := sum_mul_coe (fun x => lhsOf G ⟨i.val, by omega⟩ ⟨128 + x.val, by omega⟩) (fun _ => 0) (fun x => ((codeI (u x * ρ) : ℤ) : ℝ)) fun x =>
    (hc x).imp id fun h => by
      have e : ¬ 128 + x.val < 128 := by omega
      simp only [lhsOf, i.isLt, e, dif_pos, dif_neg, not_false_eq_true, Nat.add_sub_cancel_left]
      rw [show G (ix3 0 ⟨i.val, i.isLt⟩ ⟨x.val, x.isLt⟩) = (γ i x : EReal) from h, ← EReal.coe_sub, sub_self]
  have s3 := sum_mul_coe (fun x => lhsOf G ⟨128 + i.val, by omega⟩ ⟨x.val, by omega⟩) (fun _ => 0) (fun x => ((codeI (u x * ρ) : ℤ) : ℝ)) fun x =>
    (hc x).imp id fun h => by
      have e : ¬ 128 + i.val < 128 := by omega
      have e' : 128 + i.val < 256 := by omega
      simp only [lhsOf, x.isLt, e, e', dif_pos, dif_neg, not_false_eq_true, Nat.add_sub_cancel_left]
      rw [show G (ix3 0 ⟨i.val, i.isLt⟩ ⟨x.val, x.isLt⟩) = (γ i x : EReal) from h, ← EReal.coe_sub, sub_self, ← EReal.coe_sub, sub_self]
  have s4 := sum_mul_coe (fun x => lhsOf G ⟨128 + i.val, by omega⟩ ⟨128 + x.val, by omega⟩) (fun _ => 0) (fun x => ((codeI (u x * ρ) : ℤ) : ℝ)) fun x => by
      right
      have e : ¬ 128 + i.val < 128 := by omega
      have e' : ¬ 128 + x.val < 128 := by omega
      simp only [lhsOf, e, e', dif_neg, not_false_eq_true]
      exact EReal.coe_zero.symm
  unfold rowOut
  simp only [code_coe]
  rw [s1, s2, s3, s4]
  simp

/-- The kernel's loss of a column is the quadratic form of the Gram matrix at the rounding errors, all of it real. -/
theorem kernel_loss_coe (hσ : 0 < σ) (hG : ∀ i j, u i = 0 ∨ u j = 0 ∨ G (ix3 0 i j) = (γ i j : EReal)) :
    (∑ s : Fin 8, colPart (fun i => (u i : EReal)) (fun i => ∑ x : Fin 128, G (ix3 0 i x) * (u x : EReal))
        (((1 / σ : ℝ)) : EReal) (lhsOf G) s) * (σ : EReal) * (σ : EReal)
      = ((∑ i, ((u i * (1 / σ) - codeI (u i * (1 / σ))) * ∑ x, γ i x * (u x * (1 / σ) - codeI (u x * (1 / σ)))) * σ * σ : ℝ) : EReal) := by
  have ht (i : Fin 128) : ((u i : EReal) * ((1 / σ : ℝ) : EReal) - code (u i) ((1 / σ : ℝ) : EReal)) *
      ((∑ x : Fin 128, G (ix3 0 i x) * (u x : EReal)) * ((1 / σ : ℝ) : EReal)
        - (rowOut (lhsOf G ⟨i.val, by omega⟩) (fun i => (u i : EReal)) ((1 / σ : ℝ) : EReal)
          + rowOut (lhsOf G ⟨128 + i.val, by omega⟩) (fun i => (u i : EReal)) ((1 / σ : ℝ) : EReal)))
      = (((u i * (1 / σ) - codeI (u i * (1 / σ))) * ∑ x, γ i x * (u x * (1 / σ) - codeI (u x * (1 / σ))) : ℝ) : EReal) := by
    rw [code_coe]
    by_cases hi : u i = 0
    · rw [hi, zero_mul, codeI_zero]
      simp
    · rw [limbs_coe u G γ hG i hi, sum_mul_coe (fun x => G (ix3 0 i x)) (γ i) u fun x =>
        (hG i x).elim (fun h => absurd h hi) id]
      rw [← EReal.coe_mul, ← EReal.coe_mul, ← EReal.coe_sub, ← EReal.coe_sub, ← EReal.coe_mul]
      congr 2
      rw [Finset.sum_mul, ← Finset.sum_sub_distrib]
      exact Finset.sum_congr rfl fun x _ => by ring
  unfold colPart
  rw [sum_rows (fun i => ((u i : EReal) * ((1 / σ : ℝ) : EReal) - code (u i) ((1 / σ : ℝ) : EReal)) *
      ((∑ x : Fin 128, G (ix3 0 i x) * (u x : EReal)) * ((1 / σ : ℝ) : EReal)
        - (rowOut (lhsOf G ⟨i.val, by omega⟩) (fun i => (u i : EReal)) ((1 / σ : ℝ) : EReal)
          + rowOut (lhsOf G ⟨128 + i.val, by omega⟩) (fun i => (u i : EReal)) ((1 / σ : ℝ) : EReal))))]
  simp only [ht]
  rw [← coe_sum, ← EReal.coe_mul, ← EReal.coe_mul, Finset.sum_mul, Finset.sum_mul]

/-- The reference's loss of a column is the same real. -/
theorem ref_loss_coe (hσ : 0 < σ) (hR : ∀ i j, u i = 0 ∨ u j = 0 ∨ R i j = (γ i j : EReal)) :
    refLoss (fun i => (u i : EReal)) R (σ : EReal)
      = ((∑ i, ((u i * (1 / σ) - codeI (u i * (1 / σ))) * ∑ x, γ i x * (u x * (1 / σ) - codeI (u x * (1 / σ)))) * σ * σ : ℝ) : EReal) := by
  have hz (x : Fin 128) (h : u x = 0) : u x - codeI (u x * (1 / σ)) * σ = 0 := by
    rw [h, zero_mul, codeI_zero]; simp
  unfold refLoss
  simp only [refErr_coe u σ hσ.ne']
  rw [sum_mul_coe _ (fun x => ∑ y, γ y x * (u y - codeI (u y * (1 / σ)) * σ)) _ fun x => ?_]
  · congr 1
    have he (x : Fin 128) : u x - codeI (u x * (1 / σ)) * σ = (u x * (1 / σ) - codeI (u x * (1 / σ))) * σ := by
      field_simp
    simp only [he, Finset.sum_mul, Finset.mul_sum]
    rw [Finset.sum_comm]
    exact Finset.sum_congr rfl fun i _ => Finset.sum_congr rfl fun x _ => by ring
  · by_cases hx : u x = 0
    · exact Or.inl (hz x hx)
    · right
      rw [← sum_mul_coe (fun y => R y x) (fun y => γ y x) _ fun y => ?_]
      · exact Finset.sum_congr rfl fun y _ => mul_comm _ _
      · rcases hR y x with h | h | h
        · exact Or.inl (hz y h)
        · exact absurd h hx
        · exact Or.inr h

end Column
end Cert.Proof
end
end
-- ==== Proof.ColByte.lean ====
module
public import proofs.«01_k».proof.Proof.ColLoss
@[expose] public section
set_option maxRecDepth 16384
noncomputable section
namespace Cert.Proof
open Idealize.ShloMosaic Cert.KernelIdeal Cert.KernelIdeal.Gen

/-- Two nibbles with their top bits flipped are two four-bit codes side by side. -/
theorem nibbles : ∀ a b : Fin 16, BitVec.ofNat 8 (a.val + 16 * b.val) ^^^ 0x88#8
    = BitVec.setWidth 8 (IntOp.ori (IntOp.andi (BitVec.ofInt 32 ((a.val : ℤ) - 8)) 15#32)
        (IntOp.shli ArithUnit.host (IntOp.andi (BitVec.ofInt 32 ((b.val : ℤ) - 8)) 15#32) 4#32)) := by
  decide +kernel

/-- The bytes of the packed word, from the low halves of its two fields. -/
theorem byte_core (U U' : ℕ) (hU : U < 65536) (hU' : U' < 65536) (j : ℕ) (hj : j < 4) :
    (IntOp.xori (IntOp.xori (BitVec.ofNat 32 (1258291200 + U)) (IntOp.shli .vector (BitVec.ofNat 32 (1258291200 + U')) 16#32)) 3280504968#32).extractLsb' (8 * j) 8
      = BitVec.ofNat 8 ((if j < 2 then U / 256 ^ j else U' / 256 ^ (j - 2)) % 256) ^^^ 0x88#8 := by
  have hs : IntOp.shli .vector (BitVec.ofNat 32 (1258291200 + U')) 16#32 = BitVec.ofNat 32 (65536 * U') := by
    show BitVec.ofNat 32 (1258291200 + U') <<< 16 = _
    apply BitVec.eq_of_toNat_eq
    simp only [BitVec.toNat_shiftLeft, BitVec.toNat_ofNat, Nat.shiftLeft_eq]
    omega
  have hx (a b c : BitVec 32) : (IntOp.xori (IntOp.xori a b) c).extractLsb' (8 * j) 8
      = a.extractLsb' (8 * j) 8 ^^^ b.extractLsb' (8 * j) 8 ^^^ c.extractLsb' (8 * j) 8 := by
    show (a ^^^ b ^^^ c).extractLsb' (8 * j) 8 = _
    rw [BitVec.extractLsb'_xor, BitVec.extractLsb'_xor]
  have hn (N M : ℕ) (h : N % 4294967296 / 2 ^ (8 * j) % 256 = M % 256) : (BitVec.ofNat 32 N).extractLsb' (8 * j) 8 = BitVec.ofNat 8 M := by
    apply BitVec.eq_of_toNat_eq
    simp only [BitVec.extractLsb'_toNat, BitVec.toNat_ofNat, Nat.shiftRight_eq_div_pow]
    exact h
  rw [hs, hx]
  interval_cases j
  · rw [hn _ (U % 256) (by omega), hn (65536 * U') 0 (by omega)]
    simp
  · rw [hn _ (U / 256 % 256) (by omega), hn (65536 * U') 0 (by omega)]
    simp
  · rw [hn _ 0 (by omega), hn (65536 * U') (U' % 256) (by omega)]
    simp
  · rw [hn _ 0x4B (by omega), hn (65536 * U') (U' / 256 % 256) (by omega)]
    simp only [Nat.reduceLT, if_false, Nat.reduceSub, pow_one]
    rw [BitVec.xor_comm (BitVec.ofNat 8 0x4B), BitVec.xor_assoc]
    congr 1

/-- A weight at one place picks that place's value. -/
theorem sum_single (f : ℕ) (hf : f < 128) (c : ℝ) (v : ℕ → ℝ) : ∑ x : Fin 128, (if x.val = f then c else 0) * v x.val = c * v f := by
  rw [Finset.sum_eq_single (⟨f, hf⟩ : Fin 128)]
  · rw [if_pos rfl]
  · intro x _ hx
    rw [if_neg fun h => hx (Fin.ext h), zero_mul]
  · intro h; exact absurd (Finset.mem_univ _) h

/-- The packing rows pick four consecutive codes out of the column and weigh them by powers of sixteen. -/
theorem pack_sum (r : Fin 32) (v : ℕ → ℝ) :
    ∑ x : Fin 128, packW r x * ((v x.val : ℝ) : EReal)
      = ((v (first r.val) + 16 * v (first r.val + 1) + 256 * v (first r.val + 2) + 4096 * v (first r.val + 3) : ℝ) : EReal) := by
  have hf : first r.val + 3 < 128 := by unfold first; omega
  have hp (x : Fin 128) : packW r x = (((if x.val = first r.val then 1 else 0) + (if x.val = first r.val + 1 then 16 else 0)
      + (if x.val = first r.val + 2 then 256 else 0) + (if x.val = first r.val + 3 then 4096 else 0) : ℝ) : EReal) := by
    unfold packW
    by_cases h : first r.val ≤ x.val ∧ x.val < first r.val + 4
    · rw [if_pos h]
      obtain ⟨d, hd⟩ : ∃ d, x.val = first r.val + d := ⟨x.val - first r.val, by omega⟩
      have hd4 : d < 4 := by omega
      rw [hd]
      interval_cases d <;> norm_num
    · rw [if_neg h, if_neg (by omega), if_neg (by omega), if_neg (by omega), if_neg (by omega)]
      simp
  rw [sum_mul_coe _ _ (fun x => v x.val) fun x => Or.inr (hp x)]
  simp only [add_mul, Finset.sum_add_distrib]
  rw [sum_single _ (by omega), sum_single _ (by omega), sum_single _ (by omega), sum_single _ (by omega), one_mul]

/-- The low half of a field: four codes, each raised by eight, side by side. -/
def packed (v : ℕ → ℕ) (f : ℕ) : ℕ := v f + 16 * v (f + 1) + 256 * v (f + 2) + 4096 * v (f + 3)

/-- Four four-bit codes side by side fit in sixteen bits. -/
theorem packed_lt (v : ℕ → ℕ) (hv : ∀ x, v x < 16) (f : ℕ) : packed v f < 65536 := by
  have h0 := hv f
  have h1 := hv (f + 1)
  have h2 := hv (f + 2)
  have h3 := hv (f + 3)
  unfold packed
  omega

/-- A byte of the low half of a field: two neighbouring codes. -/
theorem packed_byte (v : ℕ → ℕ) (hv : ∀ x, v x < 16) (f j : ℕ) (hj : j < 2) :
    packed v f / 256 ^ j % 256 = v (f + 2 * j) + 16 * v (f + 2 * j + 1) := by
  have h0 := hv f
  have h1 := hv (f + 1)
  have h2 := hv (f + 2)
  have h3 := hv (f + 3)
  unfold packed
  interval_cases j
  · simp only [pow_zero, mul_zero, add_zero]; omega
  · simp only [pow_one, mul_one, show f + 2 + 1 = f + 3 from rfl]; omega

/-- A converted field with the constant put back is its low half above a constant. -/
theorem magic_bits (P : ℕ) (hP : P < 65536) :
    IntOp.addi (BitVec.ofInt 32 ((P : ℤ) + 8388608)) 1249902592#32 = BitVec.ofNat 32 (1258291200 + P) := by
  have e : (P : ℤ) + 8388608 = ((8388608 + P : ℕ) : ℤ) := by omega
  rw [e, BitVec.ofInt_natCast]
  unfold IntOp.addi
  apply BitVec.eq_of_toNat_eq
  rw [BitVec.toNat_add]
  simp only [BitVec.toNat_ofNat]
  omega

/-- A packed sum with the constant of its field added converts to the low half above a power of two. -/
theorem magic_coe (P : ℕ) (hP : P < 65536) :
    (FloatOps.fptosi (F := Ideal) (φ := .f32) 32 (((((P : ℤ) - 34952 : ℤ) : ℝ) : EReal) + ((8423560 : ℝ) : EReal)))
      = BitVec.ofInt 32 ((P : ℤ) + 8388608) := by
  have e : (((P : ℤ) - 34952 : ℤ) : ℝ) + (8423560 : ℝ) = (((P : ℤ) + 8388608 : ℤ) : ℝ) := by push_cast; ring
  have e2 : ((((P : ℤ) - 34952 : ℤ) : ℝ) : EReal) + ((8423560 : ℝ) : EReal) = ((((P : ℤ) + 8388608 : ℤ) : ℝ) : EReal) := by
    rw [← EReal.coe_add, e]
  exact (congrArg _ e2).trans (fptosi_coe ((P : ℤ) + 8388608) (by omega) (by omega))

section Column
variable (u : Fin 128 → ℝ) (G : FVec Ideal S1x128x128 .f32) (σ : ℝ)

/-- The codes of a column, by place, each raised by eight. -/
def raised (x : ℕ) : ℕ := if h : x < 128 then (codeI (u ⟨x, h⟩ * (1 / σ)) + 8).toNat else 8

/-- A raised code fits in four bits. -/
theorem raised_lt (x : ℕ) : raised u σ x < 16 := by
  unfold raised
  split
  · rename_i h
    have := codeI_bounds (u ⟨x, h⟩ * (1 / σ))
    omega
  · omega

/-- A code is its raised code less eight. -/
theorem raised_code (x : Fin 128) : codeI (u x * (1 / σ)) = (raised u σ x.val : ℤ) - 8 := by
  have e : raised u σ x.val = (codeI (u x * (1 / σ)) + 8).toNat := dif_pos x.isLt
  rw [e]
  have := codeI_bounds (u x * (1 / σ))
  omega

/-- A field of the packed codes holds its four raised codes above a constant. -/
theorem field_eq (r : Fin 32) : field (fun i => (u i : EReal)) ((1 / σ : ℝ) : EReal) (lhsOf G) r
    = BitVec.ofNat 32 (1258291200 + packed (raised u σ) (first r.val)) := by
  have hU := packed_lt (raised u σ) (raised_lt u σ) (first r.val)
  have h1 : rowOut (lhsOf G ⟨256 + r.val, by omega⟩) (fun i => (u i : EReal)) ((1 / σ : ℝ) : EReal)
      = ((((packed (raised u σ) (first r.val) : ℤ) - 34952 : ℤ) : ℝ) : EReal) := by
    unfold rowOut
    simp only [code_coe, raised_code]
    have e1 (x : Fin 128) : lhsOf G ⟨256 + r.val, by omega⟩ ⟨x.val, by omega⟩ = packW r x := by
      have e : ¬ 256 + r.val < 128 := by omega
      have e' : ¬ 256 + r.val < 256 := by omega
      simp only [lhsOf, x.isLt, e, e', dif_pos, dif_neg, not_false_eq_true, Nat.add_sub_cancel_left]
    have e2 (x : Fin 128) : lhsOf G ⟨256 + r.val, by omega⟩ ⟨128 + x.val, by omega⟩ = 0 := by
      have e : ¬ 256 + r.val < 128 := by omega
      have e' : ¬ 128 + x.val < 128 := by omega
      simp only [lhsOf, e, e', dif_neg, not_false_eq_true]
    simp only [e1, e2, zero_mul, Finset.sum_const_zero, add_zero]
    rw [pack_sum r fun x => (((raised u σ x : ℤ) - 8 : ℤ) : ℝ)]
    congr 1
    unfold packed
    push_cast
    ring
  unfold field
  rw [h1, lit_magic]
  rw [magic_coe _ hU, magic_bits _ hU]

/-- The kernel's packed byte of a column is the reference's. -/
theorem byte_eq (hσ : 0 < σ) (q : Fin 64) :
    colByte (fun i => (u i : EReal)) ((1 / σ : ℝ) : EReal) (lhsOf G) q = refByte (fun i => (u i : EReal)) (σ : EReal) q := by
  have hr := raised_lt u σ
  unfold colByte word refByte
  rw [field_eq, field_eq, byte_core _ _ (packed_lt _ hr _) (packed_lt _ hr _) _ (by omega),
    refCode_coe u σ hσ.ne', refCode_coe u σ hσ.ne', raised_code, raised_code]
  have e : (if q.val % 4 < 2 then packed (raised u σ) (first (q.val / 4)) / 256 ^ (q.val % 4)
      else packed (raised u σ) (first (16 + q.val / 4)) / 256 ^ (q.val % 4 - 2)) % 256
      = raised u σ (2 * q.val) + 16 * raised u σ (1 + 2 * q.val) := by
    split
    · rw [packed_byte _ hr _ _ (by omega)]
      have : first (q.val / 4) + 2 * (q.val % 4) = 2 * q.val := by unfold first; omega
      rw [this, Nat.add_comm 1]
    · rw [packed_byte _ hr _ _ (by omega)]
      have : first (16 + q.val / 4) + 2 * (q.val % 4 - 2) = 2 * q.val := by unfold first; omega
      rw [this, Nat.add_comm 1]
  simp only [e]
  exact nibbles ⟨_, hr _⟩ ⟨_, hr _⟩

end Column
end Cert.Proof
end
end
-- ==== Proof.Equal.lean ====
module
public import proofs.«01_k».proof.Proof.KRun
public import proofs.«01_k».proof.Proof.RefAt
public import proofs.«01_k».proof.Proof.ColByte
public import proofs.«01_k».proof.Pre_finite
@[expose] public section
set_option maxRecDepth 16384
noncomputable section
namespace Cert.Proof
open Idealize.ShloMosaic Cert.KernelIdeal Cert.KernelIdeal.Gen Cert.ReferenceIdeal.Value

/-! # The kernel's three results are the reference's

Entry by entry, for real arguments: the scales, the packed codes and the losses. -/

/-- An extended real whose absolute value is below infinity is real. -/
theorem real_of_abs {e : EReal} (h : max e (-e) < ⊤) : ∃ r : ℝ, e = (r : EReal) := by
  induction e using EReal.rec with
  | bot => simp at h
  | top => simp at h
  | coe r => exact ⟨r, rfl⟩

section Gram
variable (X : FVec Ideal S24x256x4096 .bf16) (W : FVec Ideal S1024x4096 .bf16) (S : FVec Ideal S4096 .f32)

/-- The tokens laid out as one row per token. -/
theorem tokens_at (n : Fin 6144) (p : Fin 4096) : shapeCast S6144x4096 X shapeCasts_S24x256x4096_S6144x4096 (ix2 n p)
    = X (ix3 (⟨n.val / 256, by omega⟩ : Fin 24) (⟨n.val % 256, by omega⟩ : Fin 256) p) := by
  pointwise

/-- The channel scales laid out as one row. -/
theorem scales_at (p : Fin 4096) : shapeCast S1x4096 S shapeCasts_S4096_S1x4096 (ix2 0 p) = S (ix1 p) := by
  pointwise

/-- The kernel's Gram matrix, in the reference's names for the group's tokens and channel scales. -/
theorem gK_at (g : Fin 32) (i j : Fin 128) : gK X S g (ix3 0 i j)
    = Ideal.div (Ideal.div (∑ n : Fin 6144, xR X g n j * xR X g n i) (sR S g i)) (sR S g j) := by
  show gramOf _ _ g i j = _
  unfold gramOf
  simp only [tokens_at, scales_at]
  rfl

/-- The kernel's scaled weights are the reference's. -/
theorem ws_eq (g : Fin 32) (l : Fin 1024) : (fun i => wsOf (blkW W g) (sK S g) i l) = wsR W S g l := rfl

/-- The kernel's candidate scale is the reference's. -/
theorem scale_eq (g : Fin 32) (l : Fin 1024) (k : Fin 20) : scaleAt (blkW W g) (sK S g) k l = refScale (wsR W S g l) k :=
  scaleOf_eq (wsR W S g l) k

end Gram

section Real
variable (x : Fin 6144 → Fin 128 → ℝ) (s : Fin 128 → ℝ)

/-- The Gram matrix of a group over the reals. -/
def gramR (i j : Fin 128) : ℝ := (∑ n, x n j * x n i) * (1 / s i) * (1 / s j)

/-- The kernel's order: the products summed first, the sum divided by both channel scales. -/
theorem gram_kernel (i j : Fin 128) (hi : s i ≠ 0) (hj : s j ≠ 0) :
    Ideal.div (Ideal.div (∑ n, (x n j : EReal) * (x n i : EReal)) (s i : EReal)) (s j : EReal) = (gramR x s i j : EReal) := by
  rw [Ideal.div_coe hi, Ideal.div_coe hj, sum_mul_coe _ (fun n => x n j) (fun n => x n i) fun n => Or.inr rfl,
    ← EReal.coe_mul, ← EReal.coe_mul]
  rfl

/-- The reference's order: every token divided by its channel scale, then the products summed. -/
theorem gram_ref (i j : Fin 128) (hi : s i ≠ 0) (hj : s j ≠ 0) :
    refGram (fun n i => (x n i : EReal)) (fun i => (s i : EReal)) i j = (gramR x s i j : EReal) := by
  unfold refGram gramR
  have h (n : Fin 6144) : Ideal.div (x n i : EReal) (s i : EReal) * Ideal.div (x n j : EReal) (s j : EReal)
      = ((x n j * x n i * (1 / s i) * (1 / s j) : ℝ) : EReal) := by
    rw [Ideal.div_coe hi, Ideal.div_coe hj, ← EReal.coe_mul, ← EReal.coe_mul, ← EReal.coe_mul]
    exact congrArg (fun r : ℝ => (r : EReal)) (by ring)
  rw [Finset.sum_congr rfl fun n _ => h n, ← coe_sum, Finset.sum_mul, Finset.sum_mul]

end Real

section Entries
variable (X : FVec Ideal S24x256x4096 .bf16) (W : FVec Ideal S1024x4096 .bf16) (S : FVec Ideal S4096 .f32)

/-- The scaled weights of a row are real, and vanish where the channel scale does. -/
theorem ws_real (hW : ∀ y, ∃ r : ℝ, W y = (r : EReal)) (hS : ∀ y, ∃ r : ℝ, S y = (r : EReal)) (g : Fin 32) (l : Fin 1024) :
    ∃ u s : Fin 128 → ℝ, wsR W S g l = (fun i => (u i : EReal)) ∧ sR S g = (fun i => (s i : EReal)) ∧ ∀ i, s i = 0 → u i = 0 := by
  choose w hw using hW
  choose s hs using hS
  refine ⟨fun i => w (ix2 l ⟨128 * g.val + i.val, by omega⟩) * s (ix1 ⟨128 * g.val + i.val, by omega⟩),
    fun i => s (ix1 ⟨128 * g.val + i.val, by omega⟩), funext fun i => ?_, funext fun i => hs _, fun i h => ?_⟩
  · rw [wsR, hw, hs, EReal.coe_mul]
  · simp only [h, mul_zero]

/-- The packed codes agree. -/
theorem code_eq (hW : ∀ y, ∃ r : ℝ, W y = (r : EReal)) (hS : ∀ y, ∃ r : ℝ, S y = (r : EReal))
    (l : Fin 1024) (g : Fin 32) (k : Fin 20) (q : Fin 64) :
    codeAt (gK X S g) (blkW W g) (sK S g) k q l = refByte (wsR W S g l) (refScale (wsR W S g l) k) q := by
  obtain ⟨u, s, hu, _, _⟩ := ws_real W S hW hS g l
  obtain ⟨σ, hσ, e⟩ := refScale_coe u k
  unfold codeAt
  rw [ws_eq, scale_eq, hu, e, Ideal.div_coe hσ.ne', one_mul]
  exact byte_eq u _ σ hσ q

/-- The losses agree. -/
theorem loss_eq (hX : ∀ y, ∃ r : ℝ, X y = (r : EReal)) (hW : ∀ y, ∃ r : ℝ, W y = (r : EReal)) (hS : ∀ y, ∃ r : ℝ, S y = (r : EReal))
    (l : Fin 1024) (g : Fin 32) (k : Fin 20) :
    lossAt (gK X S g) (blkW W g) (sK S g) k l
      = refLoss (wsR W S g l) (refGram (xR X g) (sR S g)) (refScale (wsR W S g l) k) := by
  obtain ⟨u, s, hu, hs, hz⟩ := ws_real W S hW hS g l
  obtain ⟨σ, hσ, e⟩ := refScale_coe u k
  choose x hx using fun n : Fin 6144 => fun i : Fin 128 => hX (ix3 (⟨n.val / 256, by omega⟩ : Fin 24) (⟨n.val % 256, by omega⟩ : Fin 256) ⟨128 * g.val + i.val, by omega⟩)
  have hxR : xR X g = fun n i => (x n i : EReal) := funext fun n => funext fun i => hx n i
  have hw : (fun i => wgOf (gK X S g) (blkW W g) (sK S g) i l) = fun i => ∑ j : Fin 128, gK X S g (ix3 0 i j) * wsR W S g l j := rfl
  have hK (i j : Fin 128) : u i = 0 ∨ u j = 0 ∨ gK X S g (ix3 0 i j) = (gramR x s i j : EReal) := by
    by_cases hi : s i = 0
    · exact Or.inl (hz i hi)
    · by_cases hj : s j = 0
      · exact Or.inr (Or.inl (hz j hj))
      · exact Or.inr (Or.inr (by rw [gK_at, hxR, hs]; exact gram_kernel x s i j hi hj))
  have hR (i j : Fin 128) : u i = 0 ∨ u j = 0 ∨ refGram (xR X g) (sR S g) i j = (gramR x s i j : EReal) := by
    by_cases hi : s i = 0
    · exact Or.inl (hz i hi)
    · by_cases hj : s j = 0
      · exact Or.inr (Or.inl (hz j hj))
      · exact Or.inr (Or.inr (by rw [hxR, hs]; exact gram_ref x s i j hi hj))
  unfold lossAt
  rw [hw, ws_eq, scale_eq, hu, e, Ideal.div_coe hσ.ne', one_mul, ref_loss_coe u _ _ σ hσ hR]
  exact kernel_loss_coe u _ _ σ hσ hK

end Entries

/-- Arguments that meet the precondition are real in every entry. -/
theorem real_args [Cert.Pre_finite.Facts] (X : FVec Ideal S24x256x4096 .bf16) (W : FVec Ideal S1024x4096 .bf16) (S : FVec Ideal S4096 .f32)
    (h : (Cert.Pre_finite.fn (F := Ideal) X W S).1 = (fun _ => 1#1) ∧ (Cert.Pre_finite.fn (F := Ideal) X W S).2.1 = (fun _ => 1#1)
      ∧ (Cert.Pre_finite.fn (F := Ideal) X W S).2.2 = (fun _ => 1#1)) :
    (∀ y, ∃ r : ℝ, X y = (r : EReal)) ∧ (∀ y, ∃ r : ℝ, W y = (r : EReal)) ∧ ∀ y, ∃ r : ℝ, S y = (r : EReal) := by
  have hb (e t : EReal) (ht : t = ⊤) (h : BitVec.ofBool (decide (max e (-e) < t)) = 1#1) : ∃ r : ℝ, e = (r : EReal) := by
    refine real_of_abs ?_
    by_contra hn
    rw [ht, decide_eq_false hn] at h
    exact absurd h (by decide)
  exact ⟨fun y => hb _ _ lit_top_bf16 (congrFun h.1 y), fun y => hb _ _ lit_top_bf16 (congrFun h.2.1 y),
    fun y => hb _ _ lit_top (congrFun h.2.2 y)⟩

end Cert.Proof
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were, and (declaring no semaphore) ends with every counter at zero. -/
theorem frame_ri : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The two named constants are what they are said to be, 1/40 and 1/7. -/
theorem preserves : Cert.preserves_Kernel_KernelIdeal :=
  ⟨IdealRules.named_const.statement Cert.KernelIdeal.κ "inv_forty" .f32 0x3CCCCCCD#32 ((1 / 40 : ℝ) : EReal) rfl,
   IdealRules.named_const.statement Cert.KernelIdeal.κ "inv_seven" .f32 0x3E124925#32 ((1 / 7 : ℝ) : EReal) rfl⟩

/-- The side conditions of the precondition's broadcasts. -/
theorem facts_pre : Cert.Pre_finite.Facts := ⟨by decide, by decide, by decide⟩

instance : Cert.Pre_finite.Facts := facts_pre

section Values
open Cert.ReferenceIdeal.Value Cert.KernelIdeal.Gen
open Idealize.ShloMosaic.TcCoe

/-- On finite arguments the idealized kernel and the reference end with the same losses, packed codes and scales. -/
theorem algebraic : Cert.algebraic_KernelIdeal_ReferenceIdeal_pre_finite := by
  intro m ρ m' ρ' hpre hargs
  refine ⟨fun c => W5 m ρ c (Proc.devRef .tc Cert.KernelIdeal.main_v6), fun c => W5 m ρ c (Proc.devRef .tc Cert.KernelIdeal.main_v9),
    fun c => W5 m ρ c (Proc.devRef .tc Cert.KernelIdeal.main_v8), Cert.KernelIdeal.Gen.run m ρ, ?_⟩
  refine (θ_run Cert.ReferenceIdeal.defs _ _).mono (fun r h c => ?_) (Cert.ReferenceIdeal.Value.run (F := Ideal) m' ρ')
  obtain ⟨h59, h60, h61, hrest⟩ := h c
  obtain ⟨hX, hW, hS⟩ := real_args _ _ _ (hpre c)
  obtain ⟨a0, a1, a2⟩ := hargs c
  refine ⟨h59.trans ((res59 m' c).trans ?_), h60.trans ((res60 m' c).trans ?_), h61.trans ?_, hrest⟩
  · rw [a0, a1, a2]
    funext y
    obtain ⟨l, g, k, rfl⟩ : ∃ (l : Fin 1024) (g : Fin 32) (k : Fin 20), y = ix3 l g k := ⟨y 0, y 1, y 2, by idx_ext⟩
    exact (rOutLoss_at _ _ _ l g k).trans ((loss_eq _ _ _ hX hW hS l g k).symm.trans (v6_read m ρ c l g k).symm)
  · rw [a1, a2]
    funext y
    obtain ⟨l, g, k, q, rfl⟩ : ∃ (l : Fin 1024) (g : Fin 32) (k : Fin 20) (q : Fin 64), y = ix4 l g k q := ⟨y 0, y 1, y 2, y 3, by idx_ext⟩
    exact (rOutByte_at _ _ l g k q).trans ((code_eq _ _ _ hW hS l g k q).symm.trans (v9_read m ρ c l g k q).symm)
  · refine Eq.trans (b := rOutScale (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))) rfl ?_
    rw [a1, a2]
    funext y
    obtain ⟨l, g, k, rfl⟩ : ∃ (l : Fin 1024) (g : Fin 32) (k : Fin 20), y = ix3 l g k := ⟨y 0, y 1, y 2, by idx_ext⟩
    exact (rOutScale_at _ _ l g k).trans ((scale_eq _ _ g l k).symm.trans (v8_read m ρ c l g k).symm)

end Values

/-- Everything the certificate claims. -/
theorem claim : Cert.Claim := ⟨Cert.Kernel.Gen.facts, Cert.KernelIdeal.Gen.facts, Cert.ReferenceIdeal.Gen.facts, facts_pre,
  fun m ρ _ => Cert.Kernel.Gen.frame m ρ, fun m ρ _ => Cert.KernelIdeal.Gen.frame m ρ,
  fun m ρ _ => Cert.KernelIdeal.Gen.frame m ρ, frame_ri, fun m ρ _ => frame_ri m ρ trivial, preserves, algebraic⟩

end Cert.Proof

end
